-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_other [hPre_every_other : Cert.Pre_every_other.Facts] (m : (ℓ : Loc Cert.KernelIdeal.nD Cert.KernelIdeal.τ Cert.KernelIdeal.sig) → Buf (Elt Ideal) ℓ) : Prop :=
  ∀ c : Dev Cert.KernelIdeal.nD,
    (Cert.Pre_every_other.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_other [hPre_every_other : Cert.Pre_every_other.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_other.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_every_other [hKernelIdeal : Cert.KernelIdeal.Facts] [hPre_every_other : Cert.Pre_every_other.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_other m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_every_other [hReferenceIdeal : Cert.ReferenceIdeal.Facts] [hPre_every_other : Cert.Pre_every_other.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_other m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_every_other [hKernelIdeal : Cert.KernelIdeal.Facts] [hReferenceIdeal : Cert.ReferenceIdeal.Facts] [hPre_every_other : Cert.Pre_every_other.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_other m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_every_other : Cert.Pre_every_other.Facts),
    quiescent_Kernel (hKernel := hKernel)
    ∧ quiescent_KernelIdeal (hKernelIdeal := hKernelIdeal)
    ∧ quiescent_KernelIdeal_pre_every_other (hKernelIdeal := hKernelIdeal) (hPre_every_other := hPre_every_other)
    ∧ quiescent_ReferenceIdeal (hReferenceIdeal := hReferenceIdeal)
    ∧ quiescent_ReferenceIdeal_pre_every_other (hReferenceIdeal := hReferenceIdeal) (hPre_every_other := hPre_every_other)
    ∧ preserves_Kernel_KernelIdeal
    ∧ algebraic_KernelIdeal_ReferenceIdeal_pre_every_other (hKernelIdeal := hKernelIdeal) (hReferenceIdeal := hReferenceIdeal) (hPre_every_other := hPre_every_other)
-- ==== Pre_every_other.lean ====
abbrev S8192x1024 : Shape := ⟨2, ![8192, 1024]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16384 32) (arg1 : IVec S_ 32) : IVec S16384 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16384 32 := broadcastInDim S16384 ![] bcast_S_S16384 v2
  let v4 : IVec S16384 32 := Host.remsi arg0 v3
  let c_1 : IVec S_ 32 := constantI S_ 32 0#32
  let v5 : IVec S16384 32 := broadcastInDim S16384 ![] bcast_S_S16384 c_1
  let v6 : IVec S16384 1 := cmpi .ne v4 v5
  let c_2 : IVec S_ 32 := constantI S_ 32 0#32
  let v7 : IVec S16384 32 := broadcastInDim S16384 ![] bcast_S_S16384 c_2
  let v8 : IVec S16384 1 := cmpi .slt v4 v7
  let c_3 : IVec S_ 32 := constantI S_ 32 0#32
  let v9 : IVec S_ 1 := cmpi .slt v2 c_3
  let v10 : IVec S16384 1 := broadcastInDim S16384 ![] bcast_S_S16384 v9
  let v11 : IVec S16384 1 := cmpi .ne v8 v10
  let v12 : IVec S16384 1 := andi v11 v6
  let v13 : IVec S16384 32 := broadcastInDim S16384 ![] bcast_S_S16384 v2
  let v14 : IVec S16384 32 := addi v4 v13
  let v15 : IVec S16384 32 := select v12 v14 v4
  v15

def fn {F : FTy → Type} [FloatOps F] (main_arg0 : FVec F S8192x1024 .f32) (main_arg1 : IVec S16384 1) : IVec S_ 1 :=
  let main_v0 : IVec S16384 32 := iotaInDim S16384 32 0
  let main_c : IVec S_ 32 := constantI S_ 32 2#32
  let main_v1 : IVec S16384 32 := fn_remainder (F := F) main_v0 main_c
  let main_c_0 : IVec S_ 32 := constantI S_ 32 0#32
  let main_v2 : IVec S16384 32 := broadcastInDim S16384 ![] bcast_S_S16384 main_c_0
  let main_v3 : IVec S16384 1 := cmpi .eq main_v1 main_v2
  let main_v4 : IVec S16384 1 := cmpi .eq main_arg1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S8192x1024 : Shape := ⟨2, ![8192, 1024]⟩
abbrev S16384 : Shape := ⟨1, ![16384]⟩
abbrev S16384x1024 : Shape := ⟨2, ![16384, 1024]⟩
abbrev S2x16x1024 : Shape := ⟨3, ![2, 16, 1024]⟩
abbrev S2x32x1024 : Shape := ⟨3, ![2, 32, 1024]⟩
abbrev S_ : Shape := ⟨0, ![]⟩
abbrev S16 : Shape := ⟨1, ![16]⟩
abbrev S1x16x1024 : Shape := ⟨3, ![1, 16, 1024]⟩
abbrev S16x1024 : Shape := ⟨2, ![16, 1024]⟩
abbrev S1x1x16 : Shape := ⟨3, ![1, 1, 16]⟩
abbrev S1x32x1024 : Shape := ⟨3, ![1, 32, 1024]⟩
abbrev S32x1024 : Shape := ⟨2, ![32, 1024]⟩

abbrev nBuf : Table → Nat
  | .hbm => 3
  | .local .scVector .vmem => 2
  | _ => 0

abbrev bufTy : (tb : Table) → Fin (nBuf tb) → BufTy
  | .hbm, ⟨0, _⟩ => ⟨S8192x1024, .f32⟩
  | .hbm, ⟨1, _⟩ => ⟨S16384, .i1⟩
  | .hbm, ⟨2, _⟩ => ⟨S16384x1024, .f32⟩
  | .local .scVector .vmem, ⟨0, _⟩ => ⟨S2x16x1024, .f32⟩
  | .local .scVector .vmem, ⟨1, _⟩ => ⟨S2x32x1024, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v4 : BitVec 32 := Scalar.addi v2 c0_i32
  let c0_i32_3 : BitVec 32 := 0#32
  ![v4.toNat, 0]
@[reducible] def k0_t1_loop : Scf.Loop 32 :=
  let c0_i32_14 : BitVec 32 := 0#32
  let c64_i32 : BitVec 32 := 64#32
  let v18 : BitVec 32 := Scalar.addi c0_i32_14 c64_i32
  let c1_i32_15 : BitVec 32 := 1#32
  ⟨c0_i32_14, v18, c1_i32_15⟩
def k0_off2 (k0_t1 : Fin k0_t1_loop.trips) : Fin 3 → Nat :=
  let c0_i32_40 : BitVec 32 := 0#32
  let v35 : Index := Scalar.indexCast c0_i32_40
  let c1_i32_41 : BitVec 32 := 1#32
  let v36 : Index := Scalar.indexCast c1_i32_41
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v37 : Index := Scalar.indexCast v34
  ![0, 1, v37.toNat]
def k0_off3 (k0_t1 : Fin k0_t1_loop.trips) : Fin 3 → Nat :=
  let c0_i32_42 : BitVec 32 := 0#32
  let v41 : Index := Scalar.indexCast c0_i32_42
  let c3_i32 : BitVec 32 := 3#32
  let v42 : Index := Scalar.indexCast c3_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v43 : Index := Scalar.indexCast v34
  ![0, 3, v43.toNat]
def k0_off4 (k0_t1 : Fin k0_t1_loop.trips) : Fin 3 → Nat :=
  let c0_i32_43 : BitVec 32 := 0#32
  let v47 : Index := Scalar.indexCast c0_i32_43
  let c5_i32 : BitVec 32 := 5#32
  let v48 : Index := Scalar.indexCast c5_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v49 : Index := Scalar.indexCast v34
  ![0, 5, v49.toNat]
def k0_off5 (k0_t1 : Fin k0_t1_loop.trips) : Fin 3 → Nat :=
  let c0_i32_44 : BitVec 32 := 0#32
  let v53 : Index := Scalar.indexCast c0_i32_44
  let c7_i32 : BitVec 32 := 7#32
  let v54 : Index := Scalar.indexCast c7_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v55 : Index := Scalar.indexCast v34
  ![0, 7, v55.toNat]
def k0_off6 (k0_t1 : Fin k0_t1_loop.trips) : Fin 3 → Nat :=
  let c0_i32_45 : BitVec 32 := 0#32
  let v59 : Index := Scalar.indexCast c0_i32_45
  let c9_i32 : BitVec 32 := 9#32
  let v60 : Index := Scalar.indexCast c9_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v61 : Index := Scalar.indexCast v34
  ![0, 9, v61.toNat]
def k0_off7 (k0_t1 : Fin k0_t1_loop.trips) : Fin 3 → Nat :=
  let c0_i32_46 : BitVec 32 := 0#32
  let v65 : Index := Scalar.indexCast c0_i32_46
  let c11_i32 : BitVec 32 := 11#32
  let v66 : Index := Scalar.indexCast c11_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v67 : Index := Scalar.indexCast v34
  ![0, 11, v67.toNat]
def k0_off8 (k0_t1 : Fin k0_t1_loop.trips) : Fin 3 → Nat :=
  let c0_i32_47 : BitVec 32 := 0#32
  let v71 : Index := Scalar.indexCast c0_i32_47
  let c13_i32 : BitVec 32 := 13#32
  let v72 : Index := Scalar.indexCast c13_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v73 : Index := Scalar.indexCast v34
  ![0, 13, v73.toNat]
def k0_off9 (k0_t1 : Fin k0_t1_loop.trips) : Fin 3 → Nat :=
  let c0_i32_48 : BitVec 32 := 0#32
  let v77 : Index := Scalar.indexCast c0_i32_48
  let c15_i32 : BitVec 32 := 15#32
  let v78 : Index := Scalar.indexCast c15_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v79 : Index := Scalar.indexCast v34
  ![0, 15, v79.toNat]
def k0_off10 (k0_t1 : Fin k0_t1_loop.trips) : Fin 3 → Nat :=
  let c0_i32_49 : BitVec 32 := 0#32
  let v83 : Index := Scalar.indexCast c0_i32_49
  let c17_i32 : BitVec 32 := 17#32
  let v84 : Index := Scalar.indexCast c17_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v85 : Index := Scalar.indexCast v34
  ![0, 17, v85.toNat]
def k0_off11 (k0_t1 : Fin k0_t1_loop.trips) : Fin 3 → Nat :=
  let c0_i32_50 : BitVec 32 := 0#32
  let v89 : Index := Scalar.indexCast c0_i32_50
  let c19_i32 : BitVec 32 := 19#32
  let v90 : Index := Scalar.indexCast c19_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v91 : Index := Scalar.indexCast v34
  ![0, 19, v91.toNat]
def k0_off12 (k0_t1 : Fin k0_t1_loop.trips) : Fin 3 → Nat :=
  let c0_i32_51 : BitVec 32 := 0#32
  let v95 : Index := Scalar.indexCast c0_i32_51
  let c21_i32 : BitVec 32 := 21#32
  let v96 : Index := Scalar.indexCast c21_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v97 : Index := Scalar.indexCast v34
  ![0, 21, v97.toNat]
def k0_off13 (k0_t1 : Fin k0_t1_loop.trips) : Fin 3 → Nat :=
  let c0_i32_52 : BitVec 32 := 0#32
  let v101 : Index := Scalar.indexCast c0_i32_52
  let c23_i32 : BitVec 32 := 23#32
  let v102 : Index := Scalar.indexCast c23_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v103 : Index := Scalar.indexCast v34
  ![0, 23, v103.toNat]
def k0_off14 (k0_t1 : Fin k0_t1_loop.trips) : Fin 3 → Nat :=
  let c0_i32_53 : BitVec 32 := 0#32
  let v107 : Index := Scalar.indexCast c0_i32_53
  let c25_i32 : BitVec 32 := 25#32
  let v108 : Index := Scalar.indexCast c25_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v109 : Index := Scalar.indexCast v34
  ![0, 25, v109.toNat]
def k0_off15 (k0_t1 : Fin k0_t1_loop.trips) : Fin 3 → Nat :=
  let c0_i32_54 : BitVec 32 := 0#32
  let v113 : Index := Scalar.indexCast c0_i32_54
  let c27_i32 : BitVec 32 := 27#32
  let v114 : Index := Scalar.indexCast c27_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v115 : Index := Scalar.indexCast v34
  ![0, 27, v115.toNat]
def k0_off16 (k0_t1 : Fin k0_t1_loop.trips) : Fin 3 → Nat :=
  let c0_i32_55 : BitVec 32 := 0#32
  let v119 : Index := Scalar.indexCast c0_i32_55
  let c29_i32 : BitVec 32 := 29#32
  let v120 : Index := Scalar.indexCast c29_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v121 : Index := Scalar.indexCast v34
  ![0, 29, v121.toNat]
def k0_off17 (k0_t1 : Fin k0_t1_loop.trips) : Fin 3 → Nat :=
  let c0_i32_56 : BitVec 32 := 0#32
  let v125 : Index := Scalar.indexCast c0_i32_56
  let c31_i32 : BitVec 32 := 31#32
  let v126 : Index := Scalar.indexCast c31_i32
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v127 : Index := Scalar.indexCast v34
  ![0, 31, v127.toNat]
def k0_off18 (k0_t1 : Fin k0_t1_loop.trips) : Fin 3 → Nat :=
  let c1_i32_57 : BitVec 32 := 1#32
  let v131 : Index := Scalar.indexCast c1_i32_57
  let c1_i32_58 : BitVec 32 := 1#32
  let v132 : Index := Scalar.indexCast c1_i32_58
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v133 : Index := Scalar.indexCast v34
  ![1, 1, v133.toNat]
def k0_off19 (k0_t1 : Fin k0_t1_loop.trips) : Fin 3 → Nat :=
  let c1_i32_59 : BitVec 32 := 1#32
  let v137 : Index := Scalar.indexCast c1_i32_59
  let c3_i32_60 : BitVec 32 := 3#32
  let v138 : Index := Scalar.indexCast c3_i32_60
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v139 : Index := Scalar.indexCast v34
  ![1, 3, v139.toNat]
def k0_off20 (k0_t1 : Fin k0_t1_loop.trips) : Fin 3 → Nat :=
  let c1_i32_61 : BitVec 32 := 1#32
  let v143 : Index := Scalar.indexCast c1_i32_61
  let c5_i32_62 : BitVec 32 := 5#32
  let v144 : Index := Scalar.indexCast c5_i32_62
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v145 : Index := Scalar.indexCast v34
  ![1, 5, v145.toNat]
def k0_off21 (k0_t1 : Fin k0_t1_loop.trips) : Fin 3 → Nat :=
  let c1_i32_63 : BitVec 32 := 1#32
  let v149 : Index := Scalar.indexCast c1_i32_63
  let c7_i32_64 : BitVec 32 := 7#32
  let v150 : Index := Scalar.indexCast c7_i32_64
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v151 : Index := Scalar.indexCast v34
  ![1, 7, v151.toNat]
def k0_off22 (k0_t1 : Fin k0_t1_loop.trips) : Fin 3 → Nat :=
  let c1_i32_65 : BitVec 32 := 1#32
  let v155 : Index := Scalar.indexCast c1_i32_65
  let c9_i32_66 : BitVec 32 := 9#32
  let v156 : Index := Scalar.indexCast c9_i32_66
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v157 : Index := Scalar.indexCast v34
  ![1, 9, v157.toNat]
def k0_off23 (k0_t1 : Fin k0_t1_loop.trips) : Fin 3 → Nat :=
  let c1_i32_67 : BitVec 32 := 1#32
  let v161 : Index := Scalar.indexCast c1_i32_67
  let c11_i32_68 : BitVec 32 := 11#32
  let v162 : Index := Scalar.indexCast c11_i32_68
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v163 : Index := Scalar.indexCast v34
  ![1, 11, v163.toNat]
def k0_off24 (k0_t1 : Fin k0_t1_loop.trips) : Fin 3 → Nat :=
  let c1_i32_69 : BitVec 32 := 1#32
  let v167 : Index := Scalar.indexCast c1_i32_69
  let c13_i32_70 : BitVec 32 := 13#32
  let v168 : Index := Scalar.indexCast c13_i32_70
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v169 : Index := Scalar.indexCast v34
  ![1, 13, v169.toNat]
def k0_off25 (k0_t1 : Fin k0_t1_loop.trips) : Fin 3 → Nat :=
  let c1_i32_71 : BitVec 32 := 1#32
  let v173 : Index := Scalar.indexCast c1_i32_71
  let c15_i32_72 : BitVec 32 := 15#32
  let v174 : Index := Scalar.indexCast c15_i32_72
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v175 : Index := Scalar.indexCast v34
  ![1, 15, v175.toNat]
def k0_off26 (k0_t1 : Fin k0_t1_loop.trips) : Fin 3 → Nat :=
  let c1_i32_73 : BitVec 32 := 1#32
  let v179 : Index := Scalar.indexCast c1_i32_73
  let c17_i32_74 : BitVec 32 := 17#32
  let v180 : Index := Scalar.indexCast c17_i32_74
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v181 : Index := Scalar.indexCast v34
  ![1, 17, v181.toNat]
def k0_off27 (k0_t1 : Fin k0_t1_loop.trips) : Fin 3 → Nat :=
  let c1_i32_75 : BitVec 32 := 1#32
  let v185 : Index := Scalar.indexCast c1_i32_75
  let c19_i32_76 : BitVec 32 := 19#32
  let v186 : Index := Scalar.indexCast c19_i32_76
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v187 : Index := Scalar.indexCast v34
  ![1, 19, v187.toNat]
def k0_off28 (k0_t1 : Fin k0_t1_loop.trips) : Fin 3 → Nat :=
  let c1_i32_77 : BitVec 32 := 1#32
  let v191 : Index := Scalar.indexCast c1_i32_77
  let c21_i32_78 : BitVec 32 := 21#32
  let v192 : Index := Scalar.indexCast c21_i32_78
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v193 : Index := Scalar.indexCast v34
  ![1, 21, v193.toNat]
def k0_off29 (k0_t1 : Fin k0_t1_loop.trips) : Fin 3 → Nat :=
  let c1_i32_79 : BitVec 32 := 1#32
  let v197 : Index := Scalar.indexCast c1_i32_79
  let c23_i32_80 : BitVec 32 := 23#32
  let v198 : Index := Scalar.indexCast c23_i32_80
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v199 : Index := Scalar.indexCast v34
  ![1, 23, v199.toNat]
def k0_off30 (k0_t1 : Fin k0_t1_loop.trips) : Fin 3 → Nat :=
  let c1_i32_81 : BitVec 32 := 1#32
  let v203 : Index := Scalar.indexCast c1_i32_81
  let c25_i32_82 : BitVec 32 := 25#32
  let v204 : Index := Scalar.indexCast c25_i32_82
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v205 : Index := Scalar.indexCast v34
  ![1, 25, v205.toNat]
def k0_off31 (k0_t1 : Fin k0_t1_loop.trips) : Fin 3 → Nat :=
  let c1_i32_83 : BitVec 32 := 1#32
  let v209 : Index := Scalar.indexCast c1_i32_83
  let c27_i32_84 : BitVec 32 := 27#32
  let v210 : Index := Scalar.indexCast c27_i32_84
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v211 : Index := Scalar.indexCast v34
  ![1, 27, v211.toNat]
def k0_off32 (k0_t1 : Fin k0_t1_loop.trips) : Fin 3 → Nat :=
  let c1_i32_85 : BitVec 32 := 1#32
  let v215 : Index := Scalar.indexCast c1_i32_85
  let c29_i32_86 : BitVec 32 := 29#32
  let v216 : Index := Scalar.indexCast c29_i32_86
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v217 : Index := Scalar.indexCast v34
  ![1, 29, v217.toNat]
def k0_off33 (k0_t1 : Fin k0_t1_loop.trips) : Fin 3 → Nat :=
  let c1_i32_87 : BitVec 32 := 1#32
  let v221 : Index := Scalar.indexCast c1_i32_87
  let c31_i32_88 : BitVec 32 := 31#32
  let v222 : Index := Scalar.indexCast c31_i32_88
  let c0_i32_14 : BitVec 32 := 0#32
  let c1_i32_15 : BitVec 32 := 1#32
  let arg10 : BitVec 32 := Scf.iv c0_i32_14 c1_i32_15 k0_t1
  let c16_i32_39 : BitVec 32 := 16#32
  let v34 : BitVec 32 := Scalar.muli arg10 c16_i32_39
  let v223 : Index := Scalar.indexCast v34
  ![1, 31, v223.toNat]
@[reducible] def k0_t2_loop : Scf.Loop 32 :=
  let c0_i32_18 : BitVec 32 := 0#32
  let c8_i32 : BitVec 32 := 8#32
  let v20 : BitVec 32 := Scalar.addi c0_i32_18 c8_i32
  let c1_i32_19 : BitVec 32 := 1#32
  ⟨c0_i32_18, v20, c1_i32_19⟩
@[reducible] def k0_t3_loop : Scf.Loop 32 :=
  let c0_i32_53 : BitVec 32 := 0#32
  let c64_i32_54 : BitVec 32 := 64#32
  let v45 : BitVec 32 := Scalar.addi c0_i32_53 c64_i32_54
  let c1_i32_55 : BitVec 32 := 1#32
  ⟨c0_i32_53, v45, c1_i32_55⟩
def k0_off34 (k0_t3 : Fin k0_t3_loop.trips) : Fin 3 → Nat :=
  let c0_i32_101 : BitVec 32 := 0#32
  let v87 : Index := Scalar.indexCast c0_i32_101
  let c0_i32_102 : BitVec 32 := 0#32
  let v88 : Index := Scalar.indexCast c0_i32_102
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v89 : Index := Scalar.indexCast v86
  ![0, 0, v89.toNat]
def k0_off35 (k0_t3 : Fin k0_t3_loop.trips) : Fin 3 → Nat :=
  let c0_i32_103 : BitVec 32 := 0#32
  let v93 : Index := Scalar.indexCast c0_i32_103
  let c0_i32_104 : BitVec 32 := 0#32
  let v94 : Index := Scalar.indexCast c0_i32_104
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v95 : Index := Scalar.indexCast v86
  ![0, 0, v95.toNat]
def k0_off36 (k0_t3 : Fin k0_t3_loop.trips) : Fin 3 → Nat :=
  let c0_i32_105 : BitVec 32 := 0#32
  let v99 : Index := Scalar.indexCast c0_i32_105
  let c1_i32_106 : BitVec 32 := 1#32
  let v100 : Index := Scalar.indexCast c1_i32_106
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v101 : Index := Scalar.indexCast v86
  ![0, 1, v101.toNat]
def k0_off37 (k0_t3 : Fin k0_t3_loop.trips) : Fin 3 → Nat :=
  let c0_i32_107 : BitVec 32 := 0#32
  let v105 : Index := Scalar.indexCast c0_i32_107
  let c2_i32_108 : BitVec 32 := 2#32
  let v106 : Index := Scalar.indexCast c2_i32_108
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v107 : Index := Scalar.indexCast v86
  ![0, 2, v107.toNat]
def k0_off38 (k0_t3 : Fin k0_t3_loop.trips) : Fin 3 → Nat :=
  let c0_i32_109 : BitVec 32 := 0#32
  let v111 : Index := Scalar.indexCast c0_i32_109
  let c2_i32_110 : BitVec 32 := 2#32
  let v112 : Index := Scalar.indexCast c2_i32_110
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v113 : Index := Scalar.indexCast v86
  ![0, 2, v113.toNat]
def k0_off39 (k0_t3 : Fin k0_t3_loop.trips) : Fin 3 → Nat :=
  let c0_i32_111 : BitVec 32 := 0#32
  let v117 : Index := Scalar.indexCast c0_i32_111
  let c4_i32 : BitVec 32 := 4#32
  let v118 : Index := Scalar.indexCast c4_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v119 : Index := Scalar.indexCast v86
  ![0, 4, v119.toNat]
def k0_off40 (k0_t3 : Fin k0_t3_loop.trips) : Fin 3 → Nat :=
  let c0_i32_112 : BitVec 32 := 0#32
  let v123 : Index := Scalar.indexCast c0_i32_112
  let c3_i32 : BitVec 32 := 3#32
  let v124 : Index := Scalar.indexCast c3_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v125 : Index := Scalar.indexCast v86
  ![0, 3, v125.toNat]
def k0_off41 (k0_t3 : Fin k0_t3_loop.trips) : Fin 3 → Nat :=
  let c0_i32_113 : BitVec 32 := 0#32
  let v129 : Index := Scalar.indexCast c0_i32_113
  let c6_i32 : BitVec 32 := 6#32
  let v130 : Index := Scalar.indexCast c6_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v131 : Index := Scalar.indexCast v86
  ![0, 6, v131.toNat]
def k0_off42 (k0_t3 : Fin k0_t3_loop.trips) : Fin 3 → Nat :=
  let c0_i32_114 : BitVec 32 := 0#32
  let v135 : Index := Scalar.indexCast c0_i32_114
  let c4_i32_115 : BitVec 32 := 4#32
  let v136 : Index := Scalar.indexCast c4_i32_115
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v137 : Index := Scalar.indexCast v86
  ![0, 4, v137.toNat]
def k0_off43 (k0_t3 : Fin k0_t3_loop.trips) : Fin 3 → Nat :=
  let c0_i32_116 : BitVec 32 := 0#32
  let v141 : Index := Scalar.indexCast c0_i32_116
  let c8_i32_117 : BitVec 32 := 8#32
  let v142 : Index := Scalar.indexCast c8_i32_117
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v143 : Index := Scalar.indexCast v86
  ![0, 8, v143.toNat]
def k0_off44 (k0_t3 : Fin k0_t3_loop.trips) : Fin 3 → Nat :=
  let c0_i32_118 : BitVec 32 := 0#32
  let v147 : Index := Scalar.indexCast c0_i32_118
  let c5_i32 : BitVec 32 := 5#32
  let v148 : Index := Scalar.indexCast c5_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v149 : Index := Scalar.indexCast v86
  ![0, 5, v149.toNat]
def k0_off45 (k0_t3 : Fin k0_t3_loop.trips) : Fin 3 → Nat :=
  let c0_i32_119 : BitVec 32 := 0#32
  let v153 : Index := Scalar.indexCast c0_i32_119
  let c10_i32 : BitVec 32 := 10#32
  let v154 : Index := Scalar.indexCast c10_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v155 : Index := Scalar.indexCast v86
  ![0, 10, v155.toNat]
def k0_off46 (k0_t3 : Fin k0_t3_loop.trips) : Fin 3 → Nat :=
  let c0_i32_120 : BitVec 32 := 0#32
  let v159 : Index := Scalar.indexCast c0_i32_120
  let c6_i32_121 : BitVec 32 := 6#32
  let v160 : Index := Scalar.indexCast c6_i32_121
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v161 : Index := Scalar.indexCast v86
  ![0, 6, v161.toNat]
def k0_off47 (k0_t3 : Fin k0_t3_loop.trips) : Fin 3 → Nat :=
  let c0_i32_122 : BitVec 32 := 0#32
  let v165 : Index := Scalar.indexCast c0_i32_122
  let c12_i32 : BitVec 32 := 12#32
  let v166 : Index := Scalar.indexCast c12_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v167 : Index := Scalar.indexCast v86
  ![0, 12, v167.toNat]
def k0_off48 (k0_t3 : Fin k0_t3_loop.trips) : Fin 3 → Nat :=
  let c0_i32_123 : BitVec 32 := 0#32
  let v171 : Index := Scalar.indexCast c0_i32_123
  let c7_i32 : BitVec 32 := 7#32
  let v172 : Index := Scalar.indexCast c7_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v173 : Index := Scalar.indexCast v86
  ![0, 7, v173.toNat]
def k0_off49 (k0_t3 : Fin k0_t3_loop.trips) : Fin 3 → Nat :=
  let c0_i32_124 : BitVec 32 := 0#32
  let v177 : Index := Scalar.indexCast c0_i32_124
  let c14_i32 : BitVec 32 := 14#32
  let v178 : Index := Scalar.indexCast c14_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v179 : Index := Scalar.indexCast v86
  ![0, 14, v179.toNat]
def k0_off50 (k0_t3 : Fin k0_t3_loop.trips) : Fin 3 → Nat :=
  let c0_i32_125 : BitVec 32 := 0#32
  let v183 : Index := Scalar.indexCast c0_i32_125
  let c8_i32_126 : BitVec 32 := 8#32
  let v184 : Index := Scalar.indexCast c8_i32_126
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v185 : Index := Scalar.indexCast v86
  ![0, 8, v185.toNat]
def k0_off51 (k0_t3 : Fin k0_t3_loop.trips) : Fin 3 → Nat :=
  let c0_i32_127 : BitVec 32 := 0#32
  let v189 : Index := Scalar.indexCast c0_i32_127
  let c16_i32_128 : BitVec 32 := 16#32
  let v190 : Index := Scalar.indexCast c16_i32_128
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v191 : Index := Scalar.indexCast v86
  ![0, 16, v191.toNat]
def k0_off52 (k0_t3 : Fin k0_t3_loop.trips) : Fin 3 → Nat :=
  let c0_i32_129 : BitVec 32 := 0#32
  let v195 : Index := Scalar.indexCast c0_i32_129
  let c9_i32 : BitVec 32 := 9#32
  let v196 : Index := Scalar.indexCast c9_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v197 : Index := Scalar.indexCast v86
  ![0, 9, v197.toNat]
def k0_off53 (k0_t3 : Fin k0_t3_loop.trips) : Fin 3 → Nat :=
  let c0_i32_130 : BitVec 32 := 0#32
  let v201 : Index := Scalar.indexCast c0_i32_130
  let c18_i32 : BitVec 32 := 18#32
  let v202 : Index := Scalar.indexCast c18_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v203 : Index := Scalar.indexCast v86
  ![0, 18, v203.toNat]
def k0_off54 (k0_t3 : Fin k0_t3_loop.trips) : Fin 3 → Nat :=
  let c0_i32_131 : BitVec 32 := 0#32
  let v207 : Index := Scalar.indexCast c0_i32_131
  let c10_i32_132 : BitVec 32 := 10#32
  let v208 : Index := Scalar.indexCast c10_i32_132
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v209 : Index := Scalar.indexCast v86
  ![0, 10, v209.toNat]
def k0_off55 (k0_t3 : Fin k0_t3_loop.trips) : Fin 3 → Nat :=
  let c0_i32_133 : BitVec 32 := 0#32
  let v213 : Index := Scalar.indexCast c0_i32_133
  let c20_i32 : BitVec 32 := 20#32
  let v214 : Index := Scalar.indexCast c20_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v215 : Index := Scalar.indexCast v86
  ![0, 20, v215.toNat]
def k0_off56 (k0_t3 : Fin k0_t3_loop.trips) : Fin 3 → Nat :=
  let c0_i32_134 : BitVec 32 := 0#32
  let v219 : Index := Scalar.indexCast c0_i32_134
  let c11_i32 : BitVec 32 := 11#32
  let v220 : Index := Scalar.indexCast c11_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v221 : Index := Scalar.indexCast v86
  ![0, 11, v221.toNat]
def k0_off57 (k0_t3 : Fin k0_t3_loop.trips) : Fin 3 → Nat :=
  let c0_i32_135 : BitVec 32 := 0#32
  let v225 : Index := Scalar.indexCast c0_i32_135
  let c22_i32 : BitVec 32 := 22#32
  let v226 : Index := Scalar.indexCast c22_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v227 : Index := Scalar.indexCast v86
  ![0, 22, v227.toNat]
def k0_off58 (k0_t3 : Fin k0_t3_loop.trips) : Fin 3 → Nat :=
  let c0_i32_136 : BitVec 32 := 0#32
  let v231 : Index := Scalar.indexCast c0_i32_136
  let c12_i32_137 : BitVec 32 := 12#32
  let v232 : Index := Scalar.indexCast c12_i32_137
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v233 : Index := Scalar.indexCast v86
  ![0, 12, v233.toNat]
def k0_off59 (k0_t3 : Fin k0_t3_loop.trips) : Fin 3 → Nat :=
  let c0_i32_138 : BitVec 32 := 0#32
  let v237 : Index := Scalar.indexCast c0_i32_138
  let c24_i32 : BitVec 32 := 24#32
  let v238 : Index := Scalar.indexCast c24_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v239 : Index := Scalar.indexCast v86
  ![0, 24, v239.toNat]
def k0_off60 (k0_t3 : Fin k0_t3_loop.trips) : Fin 3 → Nat :=
  let c0_i32_139 : BitVec 32 := 0#32
  let v243 : Index := Scalar.indexCast c0_i32_139
  let c13_i32 : BitVec 32 := 13#32
  let v244 : Index := Scalar.indexCast c13_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v245 : Index := Scalar.indexCast v86
  ![0, 13, v245.toNat]
def k0_off61 (k0_t3 : Fin k0_t3_loop.trips) : Fin 3 → Nat :=
  let c0_i32_140 : BitVec 32 := 0#32
  let v249 : Index := Scalar.indexCast c0_i32_140
  let c26_i32 : BitVec 32 := 26#32
  let v250 : Index := Scalar.indexCast c26_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v251 : Index := Scalar.indexCast v86
  ![0, 26, v251.toNat]
def k0_off62 (k0_t3 : Fin k0_t3_loop.trips) : Fin 3 → Nat :=
  let c0_i32_141 : BitVec 32 := 0#32
  let v255 : Index := Scalar.indexCast c0_i32_141
  let c14_i32_142 : BitVec 32 := 14#32
  let v256 : Index := Scalar.indexCast c14_i32_142
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v257 : Index := Scalar.indexCast v86
  ![0, 14, v257.toNat]
def k0_off63 (k0_t3 : Fin k0_t3_loop.trips) : Fin 3 → Nat :=
  let c0_i32_143 : BitVec 32 := 0#32
  let v261 : Index := Scalar.indexCast c0_i32_143
  let c28_i32 : BitVec 32 := 28#32
  let v262 : Index := Scalar.indexCast c28_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v263 : Index := Scalar.indexCast v86
  ![0, 28, v263.toNat]
def k0_off64 (k0_t3 : Fin k0_t3_loop.trips) : Fin 3 → Nat :=
  let c0_i32_144 : BitVec 32 := 0#32
  let v267 : Index := Scalar.indexCast c0_i32_144
  let c15_i32 : BitVec 32 := 15#32
  let v268 : Index := Scalar.indexCast c15_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v269 : Index := Scalar.indexCast v86
  ![0, 15, v269.toNat]
def k0_off65 (k0_t3 : Fin k0_t3_loop.trips) : Fin 3 → Nat :=
  let c0_i32_145 : BitVec 32 := 0#32
  let v273 : Index := Scalar.indexCast c0_i32_145
  let c30_i32 : BitVec 32 := 30#32
  let v274 : Index := Scalar.indexCast c30_i32
  let c0_i32_53 : BitVec 32 := 0#32
  let c1_i32_55 : BitVec 32 := 1#32
  let arg12 : BitVec 32 := Scf.iv c0_i32_53 c1_i32_55 k0_t3
  let c16_i32_100 : BitVec 32 := 16#32
  let v86 : BitVec 32 := Scalar.muli arg12 c16_i32_100
  let v275 : Index := Scalar.indexCast v86
  ![0, 30, v275.toNat]
def k0_off66 (i : grid0.Coords) (k0_t2 : Fin k0_t2_loop.trips) (c0_i32_40 : BitVec 32) : Fin 2 → Nat :=
  let c2_i32_58 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_18 : BitVec 32 := 0#32
  let c1_i32_19 : BitVec 32 := 1#32
  let arg10 : BitVec 32 := Scf.iv c0_i32_18 c1_i32_19 k0_t2
  let c2_i32_39 : BitVec 32 := 2#32
  let v34 : BitVec 32 := Scalar.muli arg10 c2_i32_39
  let v35 : BitVec 32 := Scalar.addi v34 c0_i32_40
  let c16_i32_57 : BitVec 32 := 16#32
  let v47 : BitVec 32 := Scalar.muli v35 c16_i32_57
  let v48 : BitVec 32 := Scalar.addi v2 v47
  let v49 : BitVec 32 := Scalar.muli c2_i32_58 v48
  let c0_i32_62 : BitVec 32 := 0#32
  ![v49.toNat, 0]
def k0_cond2 (k0_t2 : Fin k0_t2_loop.trips) : BitVec 1 :=
  let c0_i32_18 : BitVec 32 := 0#32
  let c1_i32_19 : BitVec 32 := 1#32
  let arg10 : BitVec 32 := Scf.iv c0_i32_18 c1_i32_19 k0_t2
  let c2_i32_39 : BitVec 32 := 2#32
  let v34 : BitVec 32 := Scalar.muli arg10 c2_i32_39
  let c0_i32_40 : BitVec 32 := 0#32
  let v35 : BitVec 32 := Scalar.addi v34 c0_i32_40
  let c2_i32_66 : BitVec 32 := 2#32
  let v56 : BitVec 32 := Scalar.addi v35 c2_i32_66
  let c16_i32_67 : BitVec 32 := 16#32
  let v57 : BitVec 1 := Scalar.cmpi .slt v56 c16_i32_67
  let v58 : BitVec 32 := Scalar.extui v57
  let c0_i32_68 : BitVec 32 := 0#32
  let v59 : BitVec 1 := Scalar.cmpi .ne v58 c0_i32_68
  v59

def k0_off67 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_18 : BitVec 32 := 0#32
  let c1_i32_19 : BitVec 32 := 1#32
  let arg10 : BitVec 32 := Scf.iv c0_i32_18 c1_i32_19 k0_t2
  let c2_i32_39 : BitVec 32 := 2#32
  let v34 : BitVec 32 := Scalar.muli arg10 c2_i32_39
  let c0_i32_40 : BitVec 32 := 0#32
  let v35 : BitVec 32 := Scalar.addi v34 c0_i32_40
  let c2_i32_100 : BitVec 32 := 2#32
  let v86 : BitVec 32 := Scalar.addi v35 c2_i32_100
  let c16_i32_101 : BitVec 32 := 16#32
  let v87 : BitVec 32 := Scalar.muli v86 c16_i32_101
  let v88 : BitVec 32 := Scalar.addi v2 v87
  let c0_i32_105 : BitVec 32 := 0#32
  ![v88.toNat, 0]
@[reducible] def k0_t4_loop : Scf.Loop 32 :=
  let c0_i32_83 : BitVec 32 := 0#32
  let c64_i32_84 : BitVec 32 := 64#32
  let v71 : BitVec 32 := Scalar.addi c0_i32_83 c64_i32_84
  let c1_i32_85 : BitVec 32 := 1#32
  ⟨c0_i32_83, v71, c1_i32_85⟩
def k0_off68 (k0_t4 : Fin k0_t4_loop.trips) : Fin 3 → Nat :=
  let c1_i32_101 : BitVec 32 := 1#32
  let v87 : Index := Scalar.indexCast c1_i32_101
  let c0_i32_102 : BitVec 32 := 0#32
  let v88 : Index := Scalar.indexCast c0_i32_102
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v89 : Index := Scalar.indexCast v86
  ![1, 0, v89.toNat]
def k0_off69 (k0_t4 : Fin k0_t4_loop.trips) : Fin 3 → Nat :=
  let c1_i32_103 : BitVec 32 := 1#32
  let v93 : Index := Scalar.indexCast c1_i32_103
  let c0_i32_104 : BitVec 32 := 0#32
  let v94 : Index := Scalar.indexCast c0_i32_104
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v95 : Index := Scalar.indexCast v86
  ![1, 0, v95.toNat]
def k0_off70 (k0_t4 : Fin k0_t4_loop.trips) : Fin 3 → Nat :=
  let c1_i32_105 : BitVec 32 := 1#32
  let v99 : Index := Scalar.indexCast c1_i32_105
  let c1_i32_106 : BitVec 32 := 1#32
  let v100 : Index := Scalar.indexCast c1_i32_106
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v101 : Index := Scalar.indexCast v86
  ![1, 1, v101.toNat]
def k0_off71 (k0_t4 : Fin k0_t4_loop.trips) : Fin 3 → Nat :=
  let c1_i32_107 : BitVec 32 := 1#32
  let v105 : Index := Scalar.indexCast c1_i32_107
  let c2_i32_108 : BitVec 32 := 2#32
  let v106 : Index := Scalar.indexCast c2_i32_108
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v107 : Index := Scalar.indexCast v86
  ![1, 2, v107.toNat]
def k0_off72 (k0_t4 : Fin k0_t4_loop.trips) : Fin 3 → Nat :=
  let c1_i32_109 : BitVec 32 := 1#32
  let v111 : Index := Scalar.indexCast c1_i32_109
  let c2_i32_110 : BitVec 32 := 2#32
  let v112 : Index := Scalar.indexCast c2_i32_110
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v113 : Index := Scalar.indexCast v86
  ![1, 2, v113.toNat]
def k0_off73 (k0_t4 : Fin k0_t4_loop.trips) : Fin 3 → Nat :=
  let c1_i32_111 : BitVec 32 := 1#32
  let v117 : Index := Scalar.indexCast c1_i32_111
  let c4_i32 : BitVec 32 := 4#32
  let v118 : Index := Scalar.indexCast c4_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v119 : Index := Scalar.indexCast v86
  ![1, 4, v119.toNat]
def k0_off74 (k0_t4 : Fin k0_t4_loop.trips) : Fin 3 → Nat :=
  let c1_i32_112 : BitVec 32 := 1#32
  let v123 : Index := Scalar.indexCast c1_i32_112
  let c3_i32 : BitVec 32 := 3#32
  let v124 : Index := Scalar.indexCast c3_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v125 : Index := Scalar.indexCast v86
  ![1, 3, v125.toNat]
def k0_off75 (k0_t4 : Fin k0_t4_loop.trips) : Fin 3 → Nat :=
  let c1_i32_113 : BitVec 32 := 1#32
  let v129 : Index := Scalar.indexCast c1_i32_113
  let c6_i32 : BitVec 32 := 6#32
  let v130 : Index := Scalar.indexCast c6_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v131 : Index := Scalar.indexCast v86
  ![1, 6, v131.toNat]
def k0_off76 (k0_t4 : Fin k0_t4_loop.trips) : Fin 3 → Nat :=
  let c1_i32_114 : BitVec 32 := 1#32
  let v135 : Index := Scalar.indexCast c1_i32_114
  let c4_i32_115 : BitVec 32 := 4#32
  let v136 : Index := Scalar.indexCast c4_i32_115
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v137 : Index := Scalar.indexCast v86
  ![1, 4, v137.toNat]
def k0_off77 (k0_t4 : Fin k0_t4_loop.trips) : Fin 3 → Nat :=
  let c1_i32_116 : BitVec 32 := 1#32
  let v141 : Index := Scalar.indexCast c1_i32_116
  let c8_i32_117 : BitVec 32 := 8#32
  let v142 : Index := Scalar.indexCast c8_i32_117
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v143 : Index := Scalar.indexCast v86
  ![1, 8, v143.toNat]
def k0_off78 (k0_t4 : Fin k0_t4_loop.trips) : Fin 3 → Nat :=
  let c1_i32_118 : BitVec 32 := 1#32
  let v147 : Index := Scalar.indexCast c1_i32_118
  let c5_i32 : BitVec 32 := 5#32
  let v148 : Index := Scalar.indexCast c5_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v149 : Index := Scalar.indexCast v86
  ![1, 5, v149.toNat]
def k0_off79 (k0_t4 : Fin k0_t4_loop.trips) : Fin 3 → Nat :=
  let c1_i32_119 : BitVec 32 := 1#32
  let v153 : Index := Scalar.indexCast c1_i32_119
  let c10_i32 : BitVec 32 := 10#32
  let v154 : Index := Scalar.indexCast c10_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v155 : Index := Scalar.indexCast v86
  ![1, 10, v155.toNat]
def k0_off80 (k0_t4 : Fin k0_t4_loop.trips) : Fin 3 → Nat :=
  let c1_i32_120 : BitVec 32 := 1#32
  let v159 : Index := Scalar.indexCast c1_i32_120
  let c6_i32_121 : BitVec 32 := 6#32
  let v160 : Index := Scalar.indexCast c6_i32_121
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v161 : Index := Scalar.indexCast v86
  ![1, 6, v161.toNat]
def k0_off81 (k0_t4 : Fin k0_t4_loop.trips) : Fin 3 → Nat :=
  let c1_i32_122 : BitVec 32 := 1#32
  let v165 : Index := Scalar.indexCast c1_i32_122
  let c12_i32 : BitVec 32 := 12#32
  let v166 : Index := Scalar.indexCast c12_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v167 : Index := Scalar.indexCast v86
  ![1, 12, v167.toNat]
def k0_off82 (k0_t4 : Fin k0_t4_loop.trips) : Fin 3 → Nat :=
  let c1_i32_123 : BitVec 32 := 1#32
  let v171 : Index := Scalar.indexCast c1_i32_123
  let c7_i32 : BitVec 32 := 7#32
  let v172 : Index := Scalar.indexCast c7_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v173 : Index := Scalar.indexCast v86
  ![1, 7, v173.toNat]
def k0_off83 (k0_t4 : Fin k0_t4_loop.trips) : Fin 3 → Nat :=
  let c1_i32_124 : BitVec 32 := 1#32
  let v177 : Index := Scalar.indexCast c1_i32_124
  let c14_i32 : BitVec 32 := 14#32
  let v178 : Index := Scalar.indexCast c14_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v179 : Index := Scalar.indexCast v86
  ![1, 14, v179.toNat]
def k0_off84 (k0_t4 : Fin k0_t4_loop.trips) : Fin 3 → Nat :=
  let c1_i32_125 : BitVec 32 := 1#32
  let v183 : Index := Scalar.indexCast c1_i32_125
  let c8_i32_126 : BitVec 32 := 8#32
  let v184 : Index := Scalar.indexCast c8_i32_126
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v185 : Index := Scalar.indexCast v86
  ![1, 8, v185.toNat]
def k0_off85 (k0_t4 : Fin k0_t4_loop.trips) : Fin 3 → Nat :=
  let c1_i32_127 : BitVec 32 := 1#32
  let v189 : Index := Scalar.indexCast c1_i32_127
  let c16_i32_128 : BitVec 32 := 16#32
  let v190 : Index := Scalar.indexCast c16_i32_128
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v191 : Index := Scalar.indexCast v86
  ![1, 16, v191.toNat]
def k0_off86 (k0_t4 : Fin k0_t4_loop.trips) : Fin 3 → Nat :=
  let c1_i32_129 : BitVec 32 := 1#32
  let v195 : Index := Scalar.indexCast c1_i32_129
  let c9_i32 : BitVec 32 := 9#32
  let v196 : Index := Scalar.indexCast c9_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v197 : Index := Scalar.indexCast v86
  ![1, 9, v197.toNat]
def k0_off87 (k0_t4 : Fin k0_t4_loop.trips) : Fin 3 → Nat :=
  let c1_i32_130 : BitVec 32 := 1#32
  let v201 : Index := Scalar.indexCast c1_i32_130
  let c18_i32 : BitVec 32 := 18#32
  let v202 : Index := Scalar.indexCast c18_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v203 : Index := Scalar.indexCast v86
  ![1, 18, v203.toNat]
def k0_off88 (k0_t4 : Fin k0_t4_loop.trips) : Fin 3 → Nat :=
  let c1_i32_131 : BitVec 32 := 1#32
  let v207 : Index := Scalar.indexCast c1_i32_131
  let c10_i32_132 : BitVec 32 := 10#32
  let v208 : Index := Scalar.indexCast c10_i32_132
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v209 : Index := Scalar.indexCast v86
  ![1, 10, v209.toNat]
def k0_off89 (k0_t4 : Fin k0_t4_loop.trips) : Fin 3 → Nat :=
  let c1_i32_133 : BitVec 32 := 1#32
  let v213 : Index := Scalar.indexCast c1_i32_133
  let c20_i32 : BitVec 32 := 20#32
  let v214 : Index := Scalar.indexCast c20_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v215 : Index := Scalar.indexCast v86
  ![1, 20, v215.toNat]
def k0_off90 (k0_t4 : Fin k0_t4_loop.trips) : Fin 3 → Nat :=
  let c1_i32_134 : BitVec 32 := 1#32
  let v219 : Index := Scalar.indexCast c1_i32_134
  let c11_i32 : BitVec 32 := 11#32
  let v220 : Index := Scalar.indexCast c11_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v221 : Index := Scalar.indexCast v86
  ![1, 11, v221.toNat]
def k0_off91 (k0_t4 : Fin k0_t4_loop.trips) : Fin 3 → Nat :=
  let c1_i32_135 : BitVec 32 := 1#32
  let v225 : Index := Scalar.indexCast c1_i32_135
  let c22_i32 : BitVec 32 := 22#32
  let v226 : Index := Scalar.indexCast c22_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v227 : Index := Scalar.indexCast v86
  ![1, 22, v227.toNat]
def k0_off92 (k0_t4 : Fin k0_t4_loop.trips) : Fin 3 → Nat :=
  let c1_i32_136 : BitVec 32 := 1#32
  let v231 : Index := Scalar.indexCast c1_i32_136
  let c12_i32_137 : BitVec 32 := 12#32
  let v232 : Index := Scalar.indexCast c12_i32_137
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v233 : Index := Scalar.indexCast v86
  ![1, 12, v233.toNat]
def k0_off93 (k0_t4 : Fin k0_t4_loop.trips) : Fin 3 → Nat :=
  let c1_i32_138 : BitVec 32 := 1#32
  let v237 : Index := Scalar.indexCast c1_i32_138
  let c24_i32 : BitVec 32 := 24#32
  let v238 : Index := Scalar.indexCast c24_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v239 : Index := Scalar.indexCast v86
  ![1, 24, v239.toNat]
def k0_off94 (k0_t4 : Fin k0_t4_loop.trips) : Fin 3 → Nat :=
  let c1_i32_139 : BitVec 32 := 1#32
  let v243 : Index := Scalar.indexCast c1_i32_139
  let c13_i32 : BitVec 32 := 13#32
  let v244 : Index := Scalar.indexCast c13_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v245 : Index := Scalar.indexCast v86
  ![1, 13, v245.toNat]
def k0_off95 (k0_t4 : Fin k0_t4_loop.trips) : Fin 3 → Nat :=
  let c1_i32_140 : BitVec 32 := 1#32
  let v249 : Index := Scalar.indexCast c1_i32_140
  let c26_i32 : BitVec 32 := 26#32
  let v250 : Index := Scalar.indexCast c26_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v251 : Index := Scalar.indexCast v86
  ![1, 26, v251.toNat]
def k0_off96 (k0_t4 : Fin k0_t4_loop.trips) : Fin 3 → Nat :=
  let c1_i32_141 : BitVec 32 := 1#32
  let v255 : Index := Scalar.indexCast c1_i32_141
  let c14_i32_142 : BitVec 32 := 14#32
  let v256 : Index := Scalar.indexCast c14_i32_142
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v257 : Index := Scalar.indexCast v86
  ![1, 14, v257.toNat]
def k0_off97 (k0_t4 : Fin k0_t4_loop.trips) : Fin 3 → Nat :=
  let c1_i32_143 : BitVec 32 := 1#32
  let v261 : Index := Scalar.indexCast c1_i32_143
  let c28_i32 : BitVec 32 := 28#32
  let v262 : Index := Scalar.indexCast c28_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v263 : Index := Scalar.indexCast v86
  ![1, 28, v263.toNat]
def k0_off98 (k0_t4 : Fin k0_t4_loop.trips) : Fin 3 → Nat :=
  let c1_i32_144 : BitVec 32 := 1#32
  let v267 : Index := Scalar.indexCast c1_i32_144
  let c15_i32 : BitVec 32 := 15#32
  let v268 : Index := Scalar.indexCast c15_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v269 : Index := Scalar.indexCast v86
  ![1, 15, v269.toNat]
def k0_off99 (k0_t4 : Fin k0_t4_loop.trips) : Fin 3 → Nat :=
  let c1_i32_145 : BitVec 32 := 1#32
  let v273 : Index := Scalar.indexCast c1_i32_145
  let c30_i32 : BitVec 32 := 30#32
  let v274 : Index := Scalar.indexCast c30_i32
  let c0_i32_83 : BitVec 32 := 0#32
  let c1_i32_85 : BitVec 32 := 1#32
  let arg12 : BitVec 32 := Scf.iv c0_i32_83 c1_i32_85 k0_t4
  let c16_i32_100 : BitVec 32 := 16#32
  let v86 : BitVec 32 := Scalar.muli arg12 c16_i32_100
  let v275 : Index := Scalar.indexCast v86
  ![1, 30, v275.toNat]
def k0_cond4 (k0_t2 : Fin k0_t2_loop.trips) : BitVec 1 :=
  let c0_i32_18 : BitVec 32 := 0#32
  let c1_i32_19 : BitVec 32 := 1#32
  let arg10 : BitVec 32 := Scf.iv c0_i32_18 c1_i32_19 k0_t2
  let c2_i32_69 : BitVec 32 := 2#32
  let v60 : BitVec 32 := Scalar.muli arg10 c2_i32_69
  let c1_i32_70 : BitVec 32 := 1#32
  let v61 : BitVec 32 := Scalar.addi v60 c1_i32_70
  let c2_i32_96 : BitVec 32 := 2#32
  let v82 : BitVec 32 := Scalar.addi v61 c2_i32_96
  let c16_i32_97 : BitVec 32 := 16#32
  let v83 : BitVec 1 := Scalar.cmpi .slt v82 c16_i32_97
  let v84 : BitVec 32 := Scalar.extui v83
  let c0_i32_98 : BitVec 32 := 0#32
  let v85 : BitVec 1 := Scalar.cmpi .ne v84 c0_i32_98
  v85

def k0_off100 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_18 : BitVec 32 := 0#32
  let c1_i32_19 : BitVec 32 := 1#32
  let arg10 : BitVec 32 := Scf.iv c0_i32_18 c1_i32_19 k0_t2
  let c2_i32_69 : BitVec 32 := 2#32
  let v60 : BitVec 32 := Scalar.muli arg10 c2_i32_69
  let c1_i32_70 : BitVec 32 := 1#32
  let v61 : BitVec 32 := Scalar.addi v60 c1_i32_70
  let c2_i32_100 : BitVec 32 := 2#32
  let v86 : BitVec 32 := Scalar.addi v61 c2_i32_100
  let c16_i32_101 : BitVec 32 := 16#32
  let v87 : BitVec 32 := Scalar.muli v86 c16_i32_101
  let v88 : BitVec 32 := Scalar.addi v2 v87
  let c0_i32_105 : BitVec 32 := 0#32
  ![v88.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x1024 : Shape := ⟨2, ![8192, 1024]⟩
abbrev S16384 : Shape := ⟨1, ![16384]⟩
abbrev S_ : Shape := ⟨0, ![]⟩
abbrev S1 : Shape := ⟨1, ![1]⟩
abbrev S2 : Shape := ⟨1, ![2]⟩
abbrev S1x1 : Shape := ⟨2, ![1, 1]⟩
abbrev S8192x1 : Shape := ⟨2, ![8192, 1]⟩
abbrev S1x1024 : Shape := ⟨2, ![1, 1024]⟩
abbrev S8193x1024 : Shape := ⟨2, ![8193, 1024]⟩
abbrev S16384x1 : Shape := ⟨2, ![16384, 1]⟩
abbrev S16384x1024 : Shape := ⟨2, ![16384, 1024]⟩

abbrev nBuf : Space → Nat
  | .hbm => 325
  | .vmem => 0
  | .smem => 0
  | _ => 0

abbrev hbmTy0_0 (i : Nat) : BufTy := match i % 128 with
  | 0 => ⟨S8192x1024, .f32⟩
  | 1 => ⟨S16384, .i1⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S8192x1, .i64⟩
  | 23 => ⟨S8192x1, .i64⟩
  | 24 => ⟨S_, .i64⟩
  | 25 => ⟨S8192x1, .i64⟩
  | 26 => ⟨S8192x1, .i64⟩
  | 27 => ⟨S_, .i64⟩
  | 28 => ⟨S8192x1, .i64⟩
  | 29 => ⟨S8192x1, .i64⟩
  | 30 => ⟨S8192x1, .i64⟩
  | 31 => ⟨S_, .i64⟩
  | 32 => ⟨S8192x1, .i64⟩
  | 33 => ⟨S8192x1, .i64⟩
  | 34 => ⟨S8192x1, .i32⟩
  | 35 => ⟨S8192x1, .i32⟩
  | 36 => ⟨S_, .i32⟩
  | 37 => ⟨S_, .i32⟩
  | 38 => ⟨S_, .i32⟩
  | 39 => ⟨S8192x1, .i32⟩
  | 40 => ⟨S8192x1, .i32⟩
  | 41 => ⟨S8192x1, .i32⟩
  | 42 => ⟨S8192x1, .i32⟩
  | 43 => ⟨S8192x1, .i32⟩
  | 44 => ⟨S_, .i32⟩
  | 45 => ⟨S8192x1, .i32⟩
  | 46 => ⟨S8192x1, .i32⟩
  | 47 => ⟨S_, .i32⟩
  | 48 => ⟨S8192x1, .i32⟩
  | 49 => ⟨S8192x1, .i32⟩
  | 50 => ⟨S8192x1, .i32⟩
  | 51 => ⟨S8192x1, .i32⟩
  | 52 => ⟨S8192x1, .i32⟩
  | 53 => ⟨S_, .i32⟩
  | 54 => ⟨S8192x1, .i32⟩
  | 55 => ⟨S8192x1, .i32⟩
  | 56 => ⟨S_, .i32⟩
  | 57 => ⟨S8192x1, .i32⟩
  | 58 => ⟨S8192x1, .i32⟩
  | 59 => ⟨S8192x1, .i32⟩
  | 60 => ⟨S8192x1, .i32⟩
  | 61 => ⟨S8192x1, .i32⟩
  | 62 => ⟨S_, .i32⟩
  | 63 => ⟨S8192x1, .i32⟩
  | 64 => ⟨S8192x1, .i32⟩
  | 65 => ⟨S_, .i32⟩
  | 66 => ⟨S8192x1, .i32⟩
  | 67 => ⟨S8192x1, .i32⟩
  | 68 => ⟨S8192x1, .i32⟩
  | 69 => ⟨S8192x1, .i32⟩
  | 70 => ⟨S8192x1, .i32⟩
  | 71 => ⟨S_, .i32⟩
  | 72 => ⟨S8192x1, .i32⟩
  | 73 => ⟨S8192x1, .i32⟩
  | 74 => ⟨S_, .i32⟩
  | 75 => ⟨S8192x1, .i32⟩
  | 76 => ⟨S8192x1, .i32⟩
  | 77 => ⟨S8192x1, .i32⟩
  | 78 => ⟨S8192x1, .i32⟩
  | 79 => ⟨S8192x1, .i32⟩
  | 80 => ⟨S8192x1, .i32⟩
  | 81 => ⟨S8192x1, .i32⟩
  | 82 => ⟨S8192x1, .i32⟩
  | 83 => ⟨S_, .i32⟩
  | 84 => ⟨S8192x1, .i32⟩
  | 85 => ⟨S8192x1, .i32⟩
  | 86 => ⟨S8192x1, .i32⟩
  | 87 => ⟨S_, .i32⟩
  | 88 => ⟨S8192x1, .i32⟩
  | 89 => ⟨S8192x1, .i32⟩
  | 90 => ⟨S_, .i32⟩
  | 91 => ⟨S8192x1, .i32⟩
  | 92 => ⟨S8192x1, .i32⟩
  | 93 => ⟨S8192x1, .i32⟩
  | 94 => ⟨S8192x1, .i32⟩
  | 95 => ⟨S8192x1, .i32⟩
  | 96 => ⟨S_, .i32⟩
  | 97 => ⟨S8192x1, .i32⟩
  | 98 => ⟨S8192x1, .i32⟩
  | 99 => ⟨S_, .i32⟩
  | 100 => ⟨S8192x1, .i32⟩
  | 101 => ⟨S8192x1, .i32⟩
  | 102 => ⟨S8192x1, .i32⟩
  | 103 => ⟨S8192x1, .i32⟩
  | 104 => ⟨S8192x1, .i32⟩
  | 105 => ⟨S_, .i32⟩
  | 106 => ⟨S8192x1, .i32⟩
  | 107 => ⟨S8192x1, .i32⟩
  | 108 => ⟨S_, .i32⟩
  | 109 => ⟨S8192x1, .i32⟩
  | 110 => ⟨S8192x1, .i32⟩
  | 111 => ⟨S8192x1, .i32⟩
  | 112 => ⟨S8192x1, .i32⟩
  | 113 => ⟨S8192x1, .i32⟩
  | 114 => ⟨S_, .i32⟩
  | 115 => ⟨S8192x1, .i32⟩
  | 116 => ⟨S8192x1, .i32⟩
  | 117 => ⟨S_, .i32⟩
  | 118 => ⟨S8192x1, .i32⟩
  | 119 => ⟨S8192x1, .i32⟩
  | 120 => ⟨S8192x1, .i32⟩
  | 121 => ⟨S8192x1, .i32⟩
  | 122 => ⟨S8192x1, .i32⟩
  | 123 => ⟨S8192x1, .i32⟩
  | 124 => ⟨S8192x1, .i32⟩
  | 125 => ⟨S8192x1, .i32⟩
  | 126 => ⟨S_, .i32⟩
  | 127 => ⟨S8192x1, .i32⟩
  | _ => ⟨S8192x1024, .f32⟩

abbrev hbmTy0_1 (i : Nat) : BufTy := match i % 128 with
  | 0 => ⟨S8192x1, .i32⟩
  | 1 => ⟨S8192x1, .i32⟩
  | 2 => ⟨S_, .i32⟩
  | 3 => ⟨S8192x1, .i32⟩
  | 4 => ⟨S8192x1, .i32⟩
  | 5 => ⟨S_, .i32⟩
  | 6 => ⟨S8192x1, .i32⟩
  | 7 => ⟨S8192x1, .i32⟩
  | 8 => ⟨S8192x1, .i32⟩
  | 9 => ⟨S8192x1, .i32⟩
  | 10 => ⟨S8192x1, .i32⟩
  | 11 => ⟨S_, .i32⟩
  | 12 => ⟨S8192x1, .i32⟩
  | 13 => ⟨S8192x1, .i32⟩
  | 14 => ⟨S_, .i32⟩
  | 15 => ⟨S8192x1, .i32⟩
  | 16 => ⟨S8192x1, .i32⟩
  | 17 => ⟨S8192x1, .i32⟩
  | 18 => ⟨S8192x1, .i32⟩
  | 19 => ⟨S8192x1, .i32⟩
  | 20 => ⟨S_, .i32⟩
  | 21 => ⟨S8192x1, .i32⟩
  | 22 => ⟨S8192x1, .i32⟩
  | 23 => ⟨S_, .i32⟩
  | 24 => ⟨S8192x1, .i32⟩
  | 25 => ⟨S8192x1, .i32⟩
  | 26 => ⟨S8192x1, .i32⟩
  | 27 => ⟨S8192x1, .i32⟩
  | 28 => ⟨S8192x1, .i32⟩
  | 29 => ⟨S_, .i32⟩
  | 30 => ⟨S8192x1, .i32⟩
  | 31 => ⟨S8192x1, .i32⟩
  | 32 => ⟨S_, .i32⟩
  | 33 => ⟨S8192x1, .i32⟩
  | 34 => ⟨S8192x1, .i32⟩
  | 35 => ⟨S8192x1, .i32⟩
  | 36 => ⟨S8192x1, .i32⟩
  | 37 => ⟨S8192x1, .i32⟩
  | 38 => ⟨S8192x1, .i32⟩
  | 39 => ⟨S8192x1, .i32⟩
  | 40 => ⟨S8192x1, .i32⟩
  | 41 => ⟨S_, .i32⟩
  | 42 => ⟨S8192x1, .i32⟩
  | 43 => ⟨S8192x1, .i32⟩
  | 44 => ⟨S8192x1, .i32⟩
  | 45 => ⟨S_, .i32⟩
  | 46 => ⟨S8192x1, .i32⟩
  | 47 => ⟨S8192x1, .i32⟩
  | 48 => ⟨S_, .i32⟩
  | 49 => ⟨S8192x1, .i32⟩
  | 50 => ⟨S8192x1, .i32⟩
  | 51 => ⟨S8192x1, .i32⟩
  | 52 => ⟨S8192x1, .i32⟩
  | 53 => ⟨S8192x1, .i32⟩
  | 54 => ⟨S_, .i32⟩
  | 55 => ⟨S8192x1, .i32⟩
  | 56 => ⟨S8192x1, .i32⟩
  | 57 => ⟨S_, .i32⟩
  | 58 => ⟨S8192x1, .i32⟩
  | 59 => ⟨S8192x1, .i32⟩
  | 60 => ⟨S8192x1, .i32⟩
  | 61 => ⟨S8192x1, .i32⟩
  | 62 => ⟨S8192x1, .i32⟩
  | 63 => ⟨S_, .i32⟩
  | 64 => ⟨S8192x1, .i32⟩
  | 65 => ⟨S8192x1, .i32⟩
  | 66 => ⟨S_, .i32⟩
  | 67 => ⟨S8192x1, .i32⟩
  | 68 => ⟨S8192x1, .i32⟩
  | 69 => ⟨S8192x1, .i32⟩
  | 70 => ⟨S8192x1, .i32⟩
  | 71 => ⟨S8192x1, .i32⟩
  | 72 => ⟨S_, .i32⟩
  | 73 => ⟨S8192x1, .i32⟩
  | 74 => ⟨S8192x1, .i32⟩
  | 75 => ⟨S_, .i32⟩
  | 76 => ⟨S8192x1, .i32⟩
  | 77 => ⟨S8192x1, .i32⟩
  | 78 => ⟨S8192x1, .i32⟩
  | 79 => ⟨S8192x1, .i32⟩
  | 80 => ⟨S8192x1, .i32⟩
  | 81 => ⟨S8192x1, .i32⟩
  | 82 => ⟨S8192x1, .i32⟩
  | 83 => ⟨S8192x1, .i32⟩
  | 84 => ⟨S_, .i32⟩
  | 85 => ⟨S8192x1, .i32⟩
  | 86 => ⟨S8192x1, .i32⟩
  | 87 => ⟨S8192x1, .i32⟩
  | 88 => ⟨S_, .i32⟩
  | 89 => ⟨S8192x1, .i32⟩
  | 90 => ⟨S8192x1, .i32⟩
  | 91 => ⟨S_, .i32⟩
  | 92 => ⟨S8192x1, .i32⟩
  | 93 => ⟨S8192x1, .i32⟩
  | 94 => ⟨S8192x1, .i32⟩
  | 95 => ⟨S8192x1, .i32⟩
  | 96 => ⟨S8192x1, .i32⟩
  | 97 => ⟨S_, .i32⟩
  | 98 => ⟨S8192x1, .i32⟩
  | 99 => ⟨S8192x1, .i32⟩
  | 100 => ⟨S_, .i32⟩
  | 101 => ⟨S8192x1, .i32⟩
  | 102 => ⟨S8192x1, .i32⟩
  | 103 => ⟨S8192x1, .i32⟩
  | 104 => ⟨S8192x1, .i32⟩
  | 105 => ⟨S8192x1, .i32⟩
  | 106 => ⟨S_, .i32⟩
  | 107 => ⟨S8192x1, .i32⟩
  | 108 => ⟨S8192x1, .i32⟩
  | 109 => ⟨S_, .i32⟩
  | 110 => ⟨S8192x1, .i32⟩
  | 111 => ⟨S8192x1, .i32⟩
  | 112 => ⟨S8192x1, .i32⟩
  | 113 => ⟨S8192x1, .i32⟩
  | 114 => ⟨S8192x1, .i32⟩
  | 115 => ⟨S_, .i32⟩
  | 116 => ⟨S8192x1, .i32⟩
  | 117 => ⟨S8192x1, .i32⟩
  | 118 => ⟨S_, .i32⟩
  | 119 => ⟨S8192x1, .i32⟩
  | 120 => ⟨S8192x1, .i32⟩
  | 121 => ⟨S8192x1, .i32⟩
  | 122 => ⟨S8192x1, .i32⟩
  | 123 => ⟨S8192x1, .i32⟩
  | 124 => ⟨S8192x1, .i32⟩
  | 125 => ⟨S8192x1, .i32⟩
  | 126 => ⟨S8192x1, .i32⟩
  | 127 => ⟨S_, .i32⟩
  | _ => ⟨S8192x1024, .f32⟩

abbrev hbmTy0_2 (i : Nat) : BufTy := match i % 128 with
  | 0 => ⟨S8192x1, .i32⟩
  | 1 => ⟨S8192x1, .i32⟩
  | 2 => ⟨S8192x1, .i32⟩
  | 3 => ⟨S_, .i32⟩
  | 4 => ⟨S8192x1, .i32⟩
  | 5 => ⟨S8192x1, .i32⟩
  | 6 => ⟨S_, .i32⟩
  | 7 => ⟨S8192x1, .i32⟩
  | 8 => ⟨S8192x1, .i32⟩
  | 9 => ⟨S8192x1, .f32⟩
  | 10 => ⟨S_, .f32⟩
  | 11 => ⟨S8192x1, .f32⟩
  | 12 => ⟨S8192x1, .f32⟩
  | 13 => ⟨S1x1, .f32⟩
  | 14 => ⟨S8192x1, .f32⟩
  | 15 => ⟨S8192x1, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .i1⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S_, .f32⟩
  | 30 => ⟨S1x1024, .f32⟩
  | 31 => ⟨S8193x1024, .f32⟩
  | 32 => ⟨S16384, .i32⟩
  | 33 => ⟨S_, .i32⟩
  | 34 => ⟨S16384, .i32⟩
  | 35 => ⟨S16384, .i32⟩
  | 36 => ⟨S16384, .i1⟩
  | 37 => ⟨S16384, .i32⟩
  | 38 => ⟨S_, .i32⟩
  | 39 => ⟨S_, .i32⟩
  | 40 => ⟨S16384, .i32⟩
  | 41 => ⟨S16384, .i32⟩
  | 42 => ⟨S_, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S1, .i32⟩
  | 55 => ⟨S_, .i32⟩
  | 56 => ⟨S16384x1, .i32⟩
  | 57 => ⟨S16384x1, .i1⟩
  | 58 => ⟨S1x1, .i32⟩
  | 59 => ⟨S16384x1, .i32⟩
  | 60 => ⟨S16384x1, .i1⟩
  | 61 => ⟨S16384x1, .i1⟩
  | 62 => ⟨S_, .i1⟩
  | 63 => ⟨S16384, .i1⟩
  | 64 => ⟨S16384x1024, .f32⟩
  | 65 => ⟨S16384x1024, .i1⟩
  | 66 => ⟨S_, .f32⟩
  | 67 => ⟨S16384x1024, .f32⟩
  | 68 => ⟨S16384x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_c : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v19_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v19_1 : Ref sig .tc := ⟨.hbm, 257, rfl⟩
abbrev main_call0_v20 : Ref sig .tc := ⟨.hbm, 258, rfl⟩
abbrev main_call0_c_2 : Ref sig .tc := ⟨.hbm, 259, rfl⟩
abbrev main_call0_v21 : Ref sig .tc := ⟨.hbm, 260, rfl⟩
abbrev main_call0_v22 : Ref sig .tc := ⟨.hbm, 261, rfl⟩
abbrev main_call0_c_3 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_cst : Ref sig .tc := ⟨.hbm, 266, rfl⟩
abbrev main_call0_v26 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_v7 : Ref sig .tc := ⟨.hbm, 275, rfl⟩
abbrev main_cst_3 : Ref sig .tc := ⟨.hbm, 276, rfl⟩
abbrev main_v8 : Ref sig .tc := ⟨.hbm, 277, rfl⟩
abbrev main_v9 : Ref sig .tc := ⟨.hbm, 278, rfl⟩
abbrev main_v10 : Ref sig .tc := ⟨.hbm, 279, rfl⟩
abbrev main_cst_4 : Ref sig .tc := ⟨.hbm, 280, rfl⟩
abbrev main_v11 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev main_cst_5 : Ref sig .tc := ⟨.hbm, 285, rfl⟩
abbrev main_v15 : Ref sig .tc := ⟨.hbm, 286, rfl⟩
abbrev main_v16 : Ref sig .tc := ⟨.hbm, 287, rfl⟩
abbrev main_v17 : Ref sig .tc := ⟨.hbm, 288, rfl⟩
abbrev main_c_6 : Ref sig .tc := ⟨.hbm, 289, rfl⟩
abbrev main_v18 : Ref sig .tc := ⟨.hbm, 290, rfl⟩
abbrev main_v19 : Ref sig .tc := ⟨.hbm, 291, rfl⟩
abbrev main_v20 : Ref sig .tc := ⟨.hbm, 292, rfl⟩
abbrev main_v21 : Ref sig .tc := ⟨.hbm, 293, rfl⟩
abbrev main_call1_call0_c : Ref sig .tc := ⟨.hbm, 294, rfl⟩
abbrev main_call1_call0_v0 : Ref sig .tc := ⟨.hbm, 295, rfl⟩
abbrev main_v22 : Ref sig .tc := ⟨.hbm, 296, rfl⟩
abbrev main_v23 : Ref sig .tc := ⟨.hbm, 297, rfl⟩
abbrev main_c_7 : Ref sig .tc := ⟨.hbm, 298, rfl⟩
abbrev main_call2_v0 : Ref sig .tc := ⟨.hbm, 299, rfl⟩
abbrev main_call2_v1 : Ref sig .tc := ⟨.hbm, 300, rfl⟩
abbrev main_v24 : Ref sig .tc := ⟨.hbm, 301, rfl⟩
abbrev main_call3_c : Ref sig .tc := ⟨.hbm, 302, rfl⟩
abbrev main_call3_v0 : Ref sig .tc := ⟨.hbm, 303, rfl⟩
abbrev main_call3_v1 : Ref sig .tc := ⟨.hbm, 304, rfl⟩
abbrev main_call3_c_0 : Ref sig .tc := ⟨.hbm, 305, rfl⟩
abbrev main_call3_v2 : Ref sig .tc := ⟨.hbm, 306, rfl⟩
abbrev main_call3_v3 : Ref sig .tc := ⟨.hbm, 307, rfl⟩
abbrev main_call3_v4 : Ref sig .tc := ⟨.hbm, 308, rfl⟩
abbrev main_call3_v5 : Ref sig .tc := ⟨.hbm, 309, rfl⟩
abbrev main_call3_c_1 : Ref sig .tc := ⟨.hbm, 310, rfl⟩
abbrev main_call3_c_2 : Ref sig .tc := ⟨.hbm, 311, rfl⟩
abbrev main_call3_v6 : Ref sig .tc := ⟨.hbm, 312, rfl⟩
abbrev main_call3_v7 : Ref sig .tc := ⟨.hbm, 313, rfl⟩
abbrev main_call3_v8 : Ref sig .tc := ⟨.hbm, 314, rfl⟩
abbrev main_call3_v9 : Ref sig .tc := ⟨.hbm, 315, rfl⟩
abbrev main_call3_v10 : Ref sig .tc := ⟨.hbm, 316, rfl⟩
abbrev main_call3_v11 : Ref sig .tc := ⟨.hbm, 317, rfl⟩
abbrev main_call3_c_3 : Ref sig .tc := ⟨.hbm, 318, rfl⟩
abbrev main_call3_v12 : Ref sig .tc := ⟨.hbm, 319, rfl⟩
abbrev main_call3_v13 : Ref sig .tc := ⟨.hbm, 320, rfl⟩
abbrev main_call3_v14 : Ref sig .tc := ⟨.hbm, 321, rfl⟩
abbrev main_call3_cst : Ref sig .tc := ⟨.hbm, 322, rfl⟩
abbrev main_call3_v15 : Ref sig .tc := ⟨.hbm, 323, rfl⟩
abbrev main_v25 : Ref sig .tc := ⟨.hbm, 324, rfl⟩

abbrev nD : Nat := 1
abbrev τ : Topo := Topo.v7x

variable {F : FTy → Type} [FloatOps F]
-- ==== Proof.Reference.Line.lean ====
/-
  The reference's program as lines of host operations: which buffers each line writes, and which it leaves alone.
-/
module

public import proofs.«01_k».proof.Proof.Gen.ReferenceIdeal
public import Idealize.ShloMosaic.Lib.StableHlo.RunHlo
public import Idealize.ShloMosaic.Lib.StableHlo.RunRead

@[expose] public section

noncomputable section

namespace Cert.ReferenceIdeal.Line

open Cert.ReferenceIdeal Cert.ReferenceIdeal.Gen

open Idealize.ShloMosaic Idealize.ShloMosaic.StableHlo
open Idealize.SL.Sem

variable {F : FTy → Type}

abbrev Op (F : FTy → Type) := HloOp τ sig (Elt F)
abbrev Λ' (F : FTy → Type) : Labels := Pipeline.Sig Λ₀ (Fin 0) fun p => (pcfgs (F := F) p).Adm
abbrev Body (F : FTy → Type) := Prog (TpuEff nD τ sig (Elt F) (Λ' F) .tc) PUnit

/-- Two lines one after the other; one operation alone. -/
theorem isSeq_call {p q : Body F} {l₁ l₂ : List (Op F)} (h₁ : IsSeq p l₁) (h₂ : IsSeq q l₂) : IsSeq (p >>= fun _ => q) (l₁ ++ l₂) := by
  unfold IsSeq at *
  rw [seq_append, h₁, h₂]
theorem isSeq_one {op : Op F} : IsSeq (hlo rfl op fun _ => .ret (⟨⟩ : PUnit) : Body F) [op] := rfl

/-- A line in two pieces, the second one fixed: the first is read off the program operation by operation. -/
theorem app_cons {op : Op F} {k : Body F} {l e : List (Op F)} (h : IsSeq k (l ++ e)) :
    IsSeq ((hlo rfl op fun _ => .ret (⟨⟩ : PUnit)) >>= fun _ => k) ((op :: l) ++ e) := IsSeq.cons h
theorem app_call {p k : Body F} {t l e : List (Op F)} (h₁ : IsSeq p t) (h₂ : IsSeq k (l ++ e)) : IsSeq (p >>= fun _ => k) ((t ++ l) ++ e) := by
  rw [List.append_assoc]; exact isSeq_call h₁ h₂
theorem app_nil {k : Body F} {e : List (Op F)} (h : IsSeq k e) : IsSeq k ([] ++ e) := h

/-- The operation writes one buffer of the main memory, whose number is from `lo` to `hi`. -/
def Writes (lo hi : ℕ) (op : Op F) : Prop :=
  op.bufs ⊆ tcRefs τ sig ∧ op.fresh = ∅ ∧ ∃ y : Ref sig .tc, op.writes = {Proc.devRef (τ := τ) .tc y} ∧ lo ≤ y.idx.val ∧ y.idx.val < hi

/-- Every operation of the line does. -/
def Within (lo hi : ℕ) (ops : List (Op F)) : Prop := ops.Forall (Writes lo hi)

theorem Within.append {lo hi : ℕ} {l₁ l₂ : List (Op F)} (h₁ : Within lo hi l₁) (h₂ : Within lo hi l₂) : Within lo hi (l₁ ++ l₂) :=
  List.forall_iff_forall_mem.mpr fun op h => (List.mem_append.mp h).elim (List.forall_iff_forall_mem.mp h₁ op) (List.forall_iff_forall_mem.mp h₂ op)

theorem Within.mono {lo hi lo' hi' : ℕ} {l : List (Op F)} (h : Within lo hi l) (hlo : lo' ≤ lo) (hhi : hi ≤ hi') : Within lo' hi' l :=
  h.imp fun _ ⟨h₁, h₂, y, h₃, h₄, h₅⟩ => ⟨h₁, h₂, y, h₃, hlo.trans h₄, h₅.trans_le hhi⟩

/-- A buffer whose number is outside the range keeps its contents. -/
theorem Within.keep {lo hi : ℕ} {l : List (Op F)} (h : Within lo hi l) (V : Valuation τ sig (Elt F)) {r : Ref sig .tc}
    (hr : r.idx.val < lo ∨ hi ≤ r.idx.val) : after l V (Proc.devRef .tc r) = V (Proc.devRef .tc r) :=
  after_of_forall_not_mem l V fun op hop hb => by
    obtain ⟨-, -, y, hw, h₁, h₂⟩ := List.forall_iff_forall_mem.mp h op hop
    rw [hw, Finset.mem_singleton] at hb
    have := Proc.devRef_injective _ hb
    subst this
    omega

theorem after_app (l₁ l₂ : List (Op F)) (V : Valuation τ sig (Elt F)) : after (l₁ ++ l₂) V = after l₂ (after l₁ V) := by
  induction l₁ generalizing V with
  | nil => rfl
  | cons op l ih => exact ih _

section Builders

variable {lo hi : ℕ} {a b c y : Ref sig .tc} {l : List (Op F)}

theorem Within.nullary {v : y.ty.Contents (Elt F)} {hy} (h : lo ≤ y.idx.val ∧ y.idx.val < hi) (hl : Within lo hi l) :
    Within lo hi (nullary y v hy :: l) :=
  (List.forall_cons _ _ _).mpr ⟨⟨nullary_bufs_sub _ _ _, rfl, y, nullary_writes _ _ _, h.1, h.2⟩, hl⟩
theorem Within.unary {f : a.ty.Contents (Elt F) → y.ty.Contents (Elt F)} {ha hy} (h : lo ≤ y.idx.val ∧ y.idx.val < hi) (hl : Within lo hi l) :
    Within lo hi (unary a y f ha hy :: l) :=
  (List.forall_cons _ _ _).mpr ⟨⟨unary_bufs_sub _ _ _ _ _, rfl, y, unary_writes _ _ _ _ _, h.1, h.2⟩, hl⟩
theorem Within.binary {f : a.ty.Contents (Elt F) → b.ty.Contents (Elt F) → y.ty.Contents (Elt F)} {ha hb hy}
    (h : lo ≤ y.idx.val ∧ y.idx.val < hi) (hl : Within lo hi l) : Within lo hi (binary a b y f ha hb hy :: l) :=
  (List.forall_cons _ _ _).mpr ⟨⟨binary_bufs_sub _ _ _ _ _ _ _, rfl, y, binary_writes _ _ _ _ _ _ _, h.1, h.2⟩, hl⟩
theorem Within.ternary {f : c.ty.Contents (Elt F) → a.ty.Contents (Elt F) → b.ty.Contents (Elt F) → y.ty.Contents (Elt F)} {hc ha hb hy}
    (h : lo ≤ y.idx.val ∧ y.idx.val < hi) (hl : Within lo hi l) : Within lo hi (ternary c a b y f hc ha hb hy :: l) :=
  (List.forall_cons _ _ _).mpr ⟨⟨ternary_bufs_sub _ _ _ _ _ _ _ _ _, rfl, y, ternary_writes _ _ _ _ _ _ _ _ _, h.1, h.2⟩, hl⟩
theorem Within.reshape {he : a.ty.elt = y.ty.elt} {hn : a.ty.shape.ShapeCasts y.ty.shape} {ha hy}
    (h : lo ≤ y.idx.val ∧ y.idx.val < hi) (hl : Within lo hi l) : Within lo hi (reshape a y he hn ha hy :: l) :=
  (List.forall_cons _ _ _).mpr ⟨⟨reshape_bufs_sub _ _ _ _ _ _, rfl, y, reshape_writes _ _ _ _ _ _, h.1, h.2⟩, hl⟩

end Builders

/-! ## The pseudo-random bits: a line of operations on words, of which only the buffers it writes matter -/

variable [FloatOps F]

theorem line_of {p : Body F} {l : List (Op F)} {lo hi : ℕ} (h : IsSeq p l) (w : Within lo hi l) : ∃ T, IsSeq p T ∧ Within lo hi T := ⟨l, h, w⟩

theorem bits_part0 (a b : TRef sig ⟨S_, .i32⟩) (c d : TRef sig ⟨S8192x1, .i32⟩) :
    ∃ T, IsSeq (fn_threefry2x32.body_part0 (F := F) a b c d main_call0_call0) T ∧ Within 36 258 T := by
  apply line_of
  case h => unfold fn_threefry2x32.body_part0; repeat (first | exact isSeq_one | exact IsSeq.nil | apply IsSeq.cons)
  case w => repeat (first | exact trivial | refine Within.binary (by decide) ?_ | refine Within.unary (by decide) ?_ | refine Within.nullary (by decide) ?_)
theorem bits_part1 (a b : TRef sig ⟨S_, .i32⟩) (c d : TRef sig ⟨S8192x1, .i32⟩) :
    ∃ T, IsSeq (fn_threefry2x32.body_part1 (F := F) a b c d main_call0_call0) T ∧ Within 36 258 T := by
  apply line_of
  case h => unfold fn_threefry2x32.body_part1; repeat (first | exact isSeq_one | exact IsSeq.nil | apply IsSeq.cons)
  case w => repeat (first | exact trivial | refine Within.binary (by decide) ?_ | refine Within.unary (by decide) ?_ | refine Within.nullary (by decide) ?_)
theorem bits_part2 (a b : TRef sig ⟨S_, .i32⟩) (c d : TRef sig ⟨S8192x1, .i32⟩) :
    ∃ T, IsSeq (fn_threefry2x32.body_part2 (F := F) a b c d main_call0_call0) T ∧ Within 36 258 T := by
  apply line_of
  case h => unfold fn_threefry2x32.body_part2; repeat (first | exact isSeq_one | exact IsSeq.nil | apply IsSeq.cons)
  case w => repeat (first | exact trivial | refine Within.binary (by decide) ?_ | refine Within.unary (by decide) ?_ | refine Within.nullary (by decide) ?_)
theorem bits_part3 (a b : TRef sig ⟨S_, .i32⟩) (c d : TRef sig ⟨S8192x1, .i32⟩) :
    ∃ T, IsSeq (fn_threefry2x32.body_part3 (F := F) a b c d main_call0_call0) T ∧ Within 36 258 T := by
  apply line_of
  case h => unfold fn_threefry2x32.body_part3; repeat (first | exact isSeq_one | exact IsSeq.nil | apply IsSeq.cons)
  case w => repeat (first | exact trivial | refine Within.binary (by decide) ?_ | refine Within.unary (by decide) ?_ | refine Within.nullary (by decide) ?_)

theorem bits_line (a b : TRef sig ⟨S_, .i32⟩) (c d : TRef sig ⟨S8192x1, .i32⟩) :
    ∃ T, IsSeq (fn_threefry2x32.body (F := F) a b c d main_call0_call0) T ∧ Within 36 258 T := by
  obtain ⟨l₀, h₀, w₀⟩ := bits_part0 (F := F) a b c d
  obtain ⟨l₁, h₁, w₁⟩ := bits_part1 (F := F) a b c d
  obtain ⟨l₂, h₂, w₂⟩ := bits_part2 (F := F) a b c d
  obtain ⟨l₃, h₃, w₃⟩ := bits_part3 (F := F) a b c d
  exact ⟨_, isSeq_call h₀ (isSeq_call h₁ (isSeq_call h₂ h₃)), w₀.append (w₁.append (w₂.append w₃))⟩

end Cert.ReferenceIdeal.Line

end
-- ==== Proof.Reference.Uniform.lean ====
/-
  The reference's noise: the line of its operations, and what it leaves in its result: a maximum with its lower bound.
-/
module

public import proofs.«01_k».proof.Proof.Reference.Line

@[expose] public section

noncomputable section

namespace Cert.ReferenceIdeal.Line

open Cert.ReferenceIdeal Cert.ReferenceIdeal.Gen

open Idealize.ShloMosaic Idealize.ShloMosaic.StableHlo
open Idealize.SL.Sem

variable {F : FTy → Type} [FloatOps F]

/-- What the noise starts with (its two bounds) and ends with (the maximum with the lower one). -/
def boundOps : List (Op F) :=
  [TRef.unary (.of main_cst) main_call0.v0 id, TRef.unary (.of main_cst_2) main_call0.v1 id,
   TRef.unary main_call0.v0 main_call0.v2 (broadcastInDim S1x1 ![] bcast_S_S1x1),
   TRef.unary main_call0.v1 main_call0.v3 (broadcastInDim S1x1 ![] bcast_S_S1x1)]
def clampOps : List (Op F) :=
  [TRef.unary main_call0.v2 main_call0.v33 (broadcastInDim S8192x1 ![0, 1] bcast_S1x1_S8192x1_0_1),
   TRef.binary main_call0.v33 main_call0.v32 main_call0.v34 maximumf]

theorem uniform_line : ∃ M, IsSeq (fn_uniform.body (F := F) (.of main_v6) (.of main_cst) (.of main_cst_2) main_call0) (boundOps ++ (M ++ clampOps))
    ∧ Within 18 274 M := by
  obtain ⟨T, hT, wT⟩ := bits_line (F := F) main_call0.v5 main_call0.v7 main_call0.v18 main_call0.v17
  apply Exists.intro; apply And.intro
  · unfold fn_uniform.body boundOps clampOps
    iterate 4 apply IsSeq.cons
    rw [List.append_eq, List.nil_append]
    iterate 18 apply app_cons
    apply app_call hT
    iterate 16 apply app_cons
    apply app_nil
    apply IsSeq.cons; apply IsSeq.cons; exact IsSeq.nil
  · repeat (first | exact trivial | refine (wT.mono (by decide) (by decide)).append ?_ | refine Within.binary (by decide) ?_ | refine Within.unary (by decide) ?_ | refine Within.nullary (by decide) ?_ | refine Within.reshape (by decide) ?_)

theorem bounds_within : Within 14 276 (boundOps (F := F)) := by
  unfold boundOps
  repeat (first | exact trivial | refine Within.unary (by decide) ?_)
theorem clamp_within : Within 14 276 (clampOps (F := F)) := by
  unfold clampOps
  repeat (first | exact trivial | refine Within.unary (by decide) ?_ | refine Within.binary (by decide) ?_)

/-- The noise is at least its lower bound, which is what the rest uses of it. -/
theorem uniform_value {M : List (Op F)} (hM : Within 18 274 M) (V : Valuation τ sig (Elt F)) :
    ∃ y : FVec F S8192x1 .f32, after (boundOps ++ (M ++ clampOps)) V (Proc.devRef .tc main_v7)
      = maximumf (broadcastInDim S8192x1 ![0, 1] bcast_S1x1_S8192x1_0_1 (broadcastInDim S1x1 ![] bcast_S_S1x1 (V (Proc.devRef .tc main_cst) : FVec F S_ .f32))) y := by
  have h2 : after boundOps V (Proc.devRef .tc main_call0_v2) = broadcastInDim S1x1 ![] bcast_S_S1x1 (V (Proc.devRef .tc main_cst) : FVec F S_ .f32) := by
    unfold boundOps
    after_results_simp
    rfl
  have h3 : ∀ W : Valuation τ sig (Elt F), after clampOps W (Proc.devRef .tc main_v7)
      = maximumf (broadcastInDim S8192x1 ![0, 1] bcast_S1x1_S8192x1_0_1 (W (Proc.devRef .tc main_call0_v2) : FVec F S1x1 .f32)) (W (Proc.devRef .tc main_call0_v32)) := by
    intro W
    unfold clampOps
    after_results_simp
    rfl
  have hk := (hM.keep (r := main_call0_v2) (after boundOps V) (by decide)).trans h2
  refine ⟨after M (after boundOps V) (Proc.devRef .tc main_call0_v32), ?_⟩
  rw [after_app, after_app, h3]
  exact congrArg (fun z : FVec F S1x1 .f32 => maximumf (broadcastInDim S8192x1 ![0, 1] bcast_S1x1_S8192x1_0_1 z) _) hk

end Cert.ReferenceIdeal.Line

end
-- ==== Proof.Reference.Main.lean ====
/-
  The reference's program: the line of its operations, what its result holds as a function of its arguments, and its run.
-/
module

public import proofs.«01_k».proof.Proof.Reference.Uniform

@[expose] public section

noncomputable section

namespace Cert.ReferenceIdeal.Line

open Cert.ReferenceIdeal Cert.ReferenceIdeal.Gen

open Idealize.ShloMosaic Idealize.ShloMosaic.StableHlo
open Idealize.SL.Sem

variable {F : FTy → Type} [FloatOps F]

/-! ## What the lines compute -/

/-- The rows kept, each times twice the truth of its noise being at least 1, below a row of zeros. -/
def tableOf (x : FVec F S8192x1024 .f32) (u : FVec F S8192x1 .f32) : FVec F S8193x1024 .f32 :=
  concatenate S8193x1024 0 [⟨S1x1024, broadcastInDim S1x1024 ![] bcast_S_S1x1024 (constant S_ .f32 0x00000000#32)⟩,
    ⟨S8192x1024, mulf x (broadcastInDim S8192x1024 ![0, 1] bcast_S8192x1_S8192x1024_0_1
      (mulf (uitofp .f32 (cmpf .oge u (broadcastInDim S8192x1 ![] bcast_S_S8192x1 (constant S_ .f32 0x3F800000#32))))
        (broadcastInDim S8192x1 ![] bcast_S_S8192x1 (constant S_ .f32 0x40000000#32))))⟩]
    concatenates_S1x1024_S8192x1024_S8193x1024_d0

/-- How many of the mask's places up to each one are false. -/
def countOf (k : IVec S16384 1) : IVec S16384 32 :=
  Host.reduceWindow IntOp.addi ![16384] ![1] ![16383] ![0] (extui 32 (noti k) natLt_1_32)
    (broadcastInDim S_ ![] bcast_S_S_ (constantI S_ 32 0#32)) reduceWindows_S16384_S16384_w16384s1p16383_0 h_S_

/-- Which row of the table each place takes. -/
def indexOf (k : IVec S16384 1) : IVec S16384 32 :=
  select k (subi (addi (broadcastInDim S16384 ![] bcast_S_S16384 (constantI S_ 32 1#32)) (iotaInDim S16384 32 0)) (countOf k))
    (broadcastInDim S16384 ![] bcast_S_S16384 (constantI S_ 32 0#32))

/-- An index counted from the end where it is negative, as a column. -/
def wrapOf (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8193#32))) i)

/-- Whether the index names a row of the table. -/
def insideOf (j : IVec S16384x1 32) : IVec S16384 1 :=
  Host.reduce IntOp.andi
    (andi (cmpi .sge j (broadcastInDim S16384x1 ![] bcast_S_S16384x1 (constantI S_ 32 0#32)))
      (cmpi .sle j (broadcastInDim S16384x1 ![0, 1] bcast_S1x1_S16384x1_0_1 (broadcastInDim S1x1 ![1] bcast_S1_S1x1_1 (constantI S1 32 8192#32)))))
    (constantI S_ 1 1#1) reducesTo_S16384x1_S16384_d1 h_S_

def takeOf (t : FVec F S8193x1024 .f32) (j : IVec S16384x1 32) : FVec F S16384x1024 .f32 :=
  select (broadcastInDim S16384x1024 ![0] bcast_S16384_S16384x1024_0 (insideOf j))
    (Host.gather gather_S8193x1024_S16384x1_S16384x1024_1_0_n_n_0_1_11024 t j)
    (broadcastInDim S16384x1024 ![] bcast_S_S16384x1024 (constant S_ .f32 0x7FC00000#32))

/-! ## The lines -/

theorem toBuf_of (r : Ref sig .tc) (h₁ : r.ty = r.ty) (h₂ : r.space ≠ .host) (h₃ : r.isScoped = false) (v : r.ty.Contents (Elt F)) :
    (TRef.of r h₁ h₂ h₃ : TRef sig r.ty).toBuf v = v := rfl

theorem take_line : ∃ T, IsSeq (fn_take.body (F := F) (.of main_v16) (.of main_v24) main_call3) T ∧ Within 302 325 T
    ∧ ∀ W : Valuation τ sig (Elt F), after T W (Proc.devRef .tc main_v25)
        = takeOf (F := F) (W (Proc.devRef .tc main_v16)) (wrapOf (W (Proc.devRef .tc main_v24))) := by
  apply Exists.intro; apply And.intro
  · unfold fn_take.body fn_where_1.body
    simp only [bind_assoc, pure_bind]
    repeat (first | exact IsSeq.nil | apply IsSeq.cons)
  apply And.intro
  · repeat (first | exact trivial | refine Within.binary (by decide) ?_ | refine Within.unary (by decide) ?_ | refine Within.nullary (by decide) ?_ | refine Within.ternary (by decide) ?_)
  · intro W
    after_results_simp
    simp only [TRef.ofBuf_toBuf, id]
    refine (toBuf_of main_v25 rfl (by decide) rfl _).trans ?_
    unfold takeOf insideOf wrapOf
    rfl

theorem choose_line : ∃ T, IsSeq (fn_where.body (F := F) (.of main_arg1) (.of main_v23) (.of main_c_7) main_call2) T ∧ Within 299 302 T
    ∧ ∀ W : Valuation τ sig (Elt F), after T W (Proc.devRef .tc main_v24)
        = select (W (Proc.devRef .tc main_arg1) : IVec S16384 1) (W (Proc.devRef .tc main_v23) : IVec S16384 32) (broadcastInDim S16384 ![] bcast_S_S16384 (W (Proc.devRef .tc main_c_7) : IVec S_ 32)) := by
  apply Exists.intro; apply And.intro
  · unfold fn_where.body
    repeat (first | exact IsSeq.nil | apply IsSeq.cons)
  apply And.intro
  · repeat (first | exact trivial | refine Within.binary (by decide) ?_ | refine Within.unary (by decide) ?_ | refine Within.nullary (by decide) ?_ | refine Within.ternary (by decide) ?_)
  · intro W
    after_results_simp
    simp only [TRef.ofBuf_toBuf, id]
    rfl

theorem count_line : ∃ T, IsSeq (fn_cumsum.body (F := F) (.of main_v21) main_call1) T ∧ Within 294 297 T
    ∧ ∀ W : Valuation τ sig (Elt F), after T W (Proc.devRef .tc main_v22)
        = Host.reduceWindow IntOp.addi ![16384] ![1] ![16383] ![0] (W (Proc.devRef .tc main_v21) : IVec S16384 32)
    (broadcastInDim S_ ![] bcast_S_S_ (constantI S_ 32 0#32)) reduceWindows_S16384_S16384_w16384s1p16383_0 h_S_ := by
  apply Exists.intro; apply And.intro
  · unfold fn_cumsum.body fn_cumsum_0.body
    simp only [bind_assoc, pure_bind]
    repeat (first | exact IsSeq.nil | apply IsSeq.cons)
  apply And.intro
  · repeat (first | exact trivial | refine Within.binary (by decide) ?_ | refine Within.unary (by decide) ?_ | refine Within.nullary (by decide) ?_ | refine Within.ternary (by decide) ?_)
  · intro W
    after_results_simp
    simp only [TRef.ofBuf_toBuf, id]
    exact (toBuf_of main_v22 rfl (by decide) rfl _).trans rfl

/-! ## The whole line -/

/-- What the pieces compute, put together: `A` before the noise `U`, `B` between it and the count `C`, `E` between the count and the choice `D`,
    and the taking `T`. -/
theorem compose {A U B C E D T : List (Op F)} {y : Valuation τ sig (Elt F) → FVec F S8192x1 .f32}
    (wA : Within 2 14 A) (wU : Within 14 276 U) (wB : Within 276 294 B) (wC : Within 294 297 C) (wE : Within 297 299 E) (wD : Within 299 302 D) (wT : Within 302 325 T)
    (vA : ∀ W : Valuation τ sig (Elt F), after A W (Proc.devRef .tc main_cst) = constant S_ .f32 0x3F800000#32)
    (vU : ∀ W : Valuation τ sig (Elt F), after U W (Proc.devRef .tc main_v7)
      = maximumf (broadcastInDim S8192x1 ![0, 1] bcast_S1x1_S8192x1_0_1 (broadcastInDim S1x1 ![] bcast_S_S1x1 (W (Proc.devRef .tc main_cst) : FVec F S_ .f32))) (y W))
    (vB : ∀ W : Valuation τ sig (Elt F), after B W (Proc.devRef .tc main_v16) = tableOf (F := F) (W (Proc.devRef .tc main_arg0)) (W (Proc.devRef .tc main_v7)))
    (vB' : ∀ W : Valuation τ sig (Elt F), after B W (Proc.devRef .tc main_v19)
      = addi (broadcastInDim S16384 ![] bcast_S_S16384 (constantI S_ 32 1#32)) (iotaInDim S16384 32 0))
    (vB'' : ∀ W : Valuation τ sig (Elt F), after B W (Proc.devRef .tc main_v21) = extui 32 (noti (W (Proc.devRef .tc main_arg1) : IVec S16384 1)) natLt_1_32)
    (vC : ∀ W : Valuation τ sig (Elt F), after C W (Proc.devRef .tc main_v22)
      = Host.reduceWindow IntOp.addi ![16384] ![1] ![16383] ![0] (W (Proc.devRef .tc main_v21) : IVec S16384 32)
          (broadcastInDim S_ ![] bcast_S_S_ (constantI S_ 32 0#32)) reduceWindows_S16384_S16384_w16384s1p16383_0 h_S_)
    (vE : ∀ W : Valuation τ sig (Elt F), after E W (Proc.devRef .tc main_v23)
      = subi (W (Proc.devRef .tc main_v19) : IVec S16384 32) (W (Proc.devRef .tc main_v22)))
    (vE' : ∀ W : Valuation τ sig (Elt F), after E W (Proc.devRef .tc main_c_7) = constantI S_ 32 0#32)
    (vD : ∀ W : Valuation τ sig (Elt F), after D W (Proc.devRef .tc main_v24)
      = select (W (Proc.devRef .tc main_arg1) : IVec S16384 1) (W (Proc.devRef .tc main_v23) : IVec S16384 32) (broadcastInDim S16384 ![] bcast_S_S16384 (W (Proc.devRef .tc main_c_7) : IVec S_ 32)))
    (vT : ∀ W : Valuation τ sig (Elt F), after T W (Proc.devRef .tc main_v25) = takeOf (F := F) (W (Proc.devRef .tc main_v16)) (wrapOf (W (Proc.devRef .tc main_v24)))) :
    Within 2 325 (A ++ (U ++ (B ++ (C ++ (E ++ (D ++ (T ++ [])))))))
    ∧ ∀ V : Valuation τ sig (Elt F), ∃ y : FVec F S8192x1 .f32, after (A ++ (U ++ (B ++ (C ++ (E ++ (D ++ (T ++ []))))))) V (Proc.devRef .tc main_v25)
        = takeOf (tableOf (V (Proc.devRef .tc main_arg0)) (maximumf (broadcastInDim S8192x1 ![0, 1] bcast_S1x1_S8192x1_0_1
            (broadcastInDim S1x1 ![] bcast_S_S1x1 (constant S_ .f32 0x3F800000#32))) y))
            (wrapOf (indexOf (V (Proc.devRef .tc main_arg1)))) := by
  constructor
  · exact (wA.mono (by decide) (by decide)).append <| (wU.mono (by decide) (by decide)).append <| (wB.mono (by decide) (by decide)).append <|
      (wC.mono (by decide) (by decide)).append <| (wE.mono (by decide) (by decide)).append <| (wD.mono (by decide) (by decide)).append <|
      (wT.mono (by decide) (by decide)).append trivial
  · intro V
    refine ⟨y (after A V), ?_⟩
    have k1 (l : List (Op F)) {lo hi : ℕ} (w : Within lo hi l) (h : 2 ≤ lo) (W : Valuation τ sig (Elt F)) :
        after l W (Proc.devRef .tc main_arg1) = W (Proc.devRef .tc main_arg1) := w.keep W (Or.inl (lt_of_lt_of_le (by decide) h))
    have k0 (l : List (Op F)) {lo hi : ℕ} (w : Within lo hi l) (h : 2 ≤ lo) (W : Valuation τ sig (Elt F)) :
        after l W (Proc.devRef .tc main_arg0) = W (Proc.devRef .tc main_arg0) := w.keep W (Or.inl (lt_of_lt_of_le (by decide) h))
    rw [after_app, after_app, after_app, after_app, after_app, after_app, List.append_nil, vT, vD, wD.keep (r := main_v16) _ (Or.inl (by decide)),
      vE, vE', wE.keep (r := main_v16) _ (Or.inl (by decide)), vC, wC.keep (r := main_v16) _ (Or.inl (by decide)),
      wC.keep (r := main_v19) _ (Or.inl (by decide)), vB, vB', vB'', k1 E wE (by decide), k1 C wC (by decide), k1 B wB (by decide), k1 U wU (by decide), k1 A wA (by decide),
      vU, k0 U wU (by decide), k0 A wA (by decide), vA]
    rfl

/-- The whole program is a line that leaves its arguments alone, and this is what its result holds. -/
theorem main_line : ∃ ops : List (Op F), (∀ d, IsSeq (main (F := F) d) ops) ∧ Within 2 325 ops
    ∧ ∀ V : Valuation τ sig (Elt F), ∃ y : FVec F S8192x1 .f32, after ops V (Proc.devRef .tc main_v25)
        = takeOf (tableOf (V (Proc.devRef .tc main_arg0)) (maximumf (broadcastInDim S8192x1 ![0, 1] bcast_S1x1_S8192x1_0_1
            (broadcastInDim S1x1 ![] bcast_S_S1x1 (constant S_ .f32 0x3F800000#32))) y))
            (wrapOf (indexOf (V (Proc.devRef .tc main_arg1)))) := by
  obtain ⟨M, hM, wM⟩ := uniform_line (F := F)
  obtain ⟨C, hC, wC, vC⟩ := count_line (F := F)
  obtain ⟨D, hD, wD, vD⟩ := choose_line (F := F)
  obtain ⟨T, hT, wT, vT⟩ := take_line (F := F)
  have ends : IsSeq (fn_take.body (F := F) (.of main_v16) (.of main_v24) main_call3 >>= fun _ => pure ⟨⟩) (T ++ []) := isSeq_call hT IsSeq.nil
  apply Exists.intro; apply And.intro
  · intro d
    unfold main
    iterate 12 apply app_cons
    apply app_nil
    apply isSeq_call hM
    iterate 18 apply app_cons
    apply app_nil
    apply isSeq_call hC
    iterate 2 apply app_cons
    apply app_nil
    apply isSeq_call hD
    exact ends
  · refine compose ?_ (bounds_within.append ((wM.mono (by decide) (by decide)).append clamp_within)) ?_ wC ?_ wD wT ?_
      (fun W => (uniform_value wM W).choose_spec) ?_ ?_ ?_ vC ?_ ?_ vD vT
    iterate 3 repeat (first | exact trivial | refine Within.binary (by decide) ?_ | refine Within.unary (by decide) ?_ | refine Within.nullary (by decide) ?_)
    all_goals (intro W; after_results_simp; first | done | rfl)

end Cert.ReferenceIdeal.Line

end
-- ==== Proof.Reference.Run.lean ====
/-
  The reference's run: it returns, with its arguments as they were, its result the line's, and every semaphore counter at zero.
-/
module

public import proofs.«01_k».proof.Proof.Reference.Main
public import Idealize.ShloMosaic.Lib.StableHlo
public import Idealize.ShloMosaic.Lib.Quiescent

@[expose] public section

noncomputable section

namespace Cert.ReferenceIdeal.Line

open Cert.ReferenceIdeal Cert.ReferenceIdeal.Gen
open Idealize.ShloMosaic Idealize.ShloMosaic.StableHlo
open Idealize.SL.Sem

variable {F : FTy → Type} [FloatOps F]

/-- It returns with its arguments as they were and the rows taken from a table made with some noise at least 1. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ ∃ y : FVec F S8192x1 .f32, r.2.mem ((c.tc : Thread nD τ).loc main_v25)
          = takeOf (tableOf (m ((c.tc : Thread nD τ).loc main_arg0))
              (maximumf (broadcastInDim S8192x1 ![0, 1] bcast_S1x1_S8192x1_0_1 (broadcastInDim S1x1 ![] bcast_S_S1x1 (constant S_ .f32 0x3F800000#32))) y))
            (wrapOf (indexOf (m ((c.tc : Thread nD τ).loc main_arg1)))))
      ∧ r.2.sem = fun _ => 0 := by
  obtain ⟨ops, hmain, W, hv⟩ := main_line (F := F)
  have hW := List.forall_iff_forall_mem.mp W
  refine (θ_run _ _ _).mono (fun r h => ⟨fun c => ⟨?_, ?_, ?_⟩, sem_eq_zero_of_no_sems (by decide) r.2⟩)
    (run_hlo defs main hmain (by decide) (by decide) (List.forall_iff_forall_mem.mpr fun op ho => (hW op ho).1) (fun op ho => (hW op ho).2.1) m ρ)
  · exact (h c main_arg0).trans (W.keep (r := main_arg0) _ (Or.inl (by decide)))
  · exact (h c main_arg1).trans (W.keep (r := main_arg1) _ (Or.inl (by decide)))
  · obtain ⟨y, hy⟩ := hv (launchContents m c)
    exact ⟨y, (h c main_v25).trans hy⟩

end Cert.ReferenceIdeal.Line

end
-- ==== Proof.Ideal.Setup.lean ====
/-
  The program as the launch theorem sees it, the buffers by name, and the sets of elements into which the proof cuts them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem cfgFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The input and the result, where the TensorCore's program keeps them. -/
abbrev xLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0

/-- The input and the result as a tile addresses them; its two scratch buffers. -/
abbrev xV : Memref sig .scVector .hbm S8192x1024 .f32 := Memref.whole main_arg0_scv
abbrev oV : Memref sig .scVector .hbm S16384x1024 .f32 := Memref.whole main_v0_scv
abbrev iB : Memref sig .scVector .vmem S2x16x1024 .f32 := Memref.whole cc0_scratch0
abbrev oB : Memref sig .scVector .vmem S2x32x1024 .f32 := Memref.whole cc0_scratch1

abbrev cV (L : grid0.Coords) : Fin τ.nSC := (L 0).castLE hcore0
abbrev jV (L : grid0.Coords) : Fin τ.nSub := (L 1).castLE hsub0
/-- The tile at grid point `L` of device `d`. -/
abbrev thr (d : Dev nD) (L : grid0.Coords) : Thread nD τ := V d (cV L) (jV L)

/-! ## The sets of elements -/

/-- Slot `b` of the input scratch, of the output scratch. -/
def iSlot (b : ℕ) : Finset S2x16x1024.Idx := Finset.univ.filter fun z => (z 0).val = b
def oSlot (b : ℕ) : Finset S2x32x1024.Idx := Finset.univ.filter fun y => (y 0).val = b
/-- The sixteen rows of the input from `16 n`; the thirty-two rows of the result from `32 n`. -/
def xRows (n : ℕ) : Finset S8192x1024.Idx := Finset.univ.filter fun p => (p 0).val / 16 = n
def oRows (n : ℕ) : Finset S16384x1024.Idx := Finset.univ.filter fun p => (p 0).val / 32 = n

theorem mem_iSlot {b : ℕ} {z : S2x16x1024.Idx} : z ∈ iSlot b ↔ (z 0).val = b := by simp [iSlot]
theorem mem_oSlot {b : ℕ} {y : S2x32x1024.Idx} : y ∈ oSlot b ↔ (y 0).val = b := by simp [oSlot]
theorem mem_xRows {n : ℕ} {p : S8192x1024.Idx} : p ∈ xRows n ↔ (p 0).val / 16 = n := by simp [xRows]
theorem mem_oRows {n : ℕ} {p : S16384x1024.Idx} : p ∈ oRows n ↔ (p 0).val / 32 = n := by simp [oRows]

end Cert.KernelIdeal.Tiles

end
-- ==== Proof.Ideal.Rows.lean ====
/-
  What a tile's sixteen-lane stores do to its output scratch: which rows of a slot hold what is wanted of them, after
  how many columns; and the two steps that the kernel's inner loops are made of, a store of zeros into an odd row, and
  the load of a row of the input scratch doubled into an even row.
-/
module

public import proofs.«01_k».proof.Proof.Ideal.Setup

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Contents of the output scratch, of the input scratch. -/
abbrev OC (F : FTy → Type) : Type := S2x32x1024.Idx → Elt F .f32
abbrev IC (F : FTy → Type) : Type := S2x16x1024.Idx → Elt F .f32

/-- In slot `b`, the rows of parity `p` hold `T` on the columns below `16 k`, and the first `j` of them on sixteen columns more. -/
def Fill (b p : ℕ) (T : OC F) (k j : ℕ) (f : OC F) : Prop :=
  ∀ y : S2x32x1024.Idx, (y 0).val = b → (y 1).val % 2 = p →
    ((y 2).val < 16 * k ∨ ((y 2).val < 16 * k + 16 ∧ (y 1).val < 2 * j)) → f y = T y

theorem Fill.zero (b p : ℕ) (T f : OC F) : Fill b p T 0 0 f := fun y _ _ h => by omega

/-- Sixteen rows of a parity done, the next sixteen columns begin. -/
theorem Fill.next {b p k : ℕ} {T f : OC F} (h : Fill b p T k 16 f) : Fill b p T (k + 1) 0 f := fun y h0 h1 h2 =>
  h y h0 h1 (by have := (y 1).isLt; change (y 1).val < 32 at this; omega)

/-- All columns done. -/
theorem Fill.all {b p : ℕ} {T f : OC F} (h : Fill b p T 64 0 f) (y : S2x32x1024.Idx) (h0 : (y 0).val = b) (h1 : (y 1).val % 2 = p) : f y = T y :=
  h y h0 h1 (by have := (y 2).isLt; change (y 2).val < 1024 at this; omega)

section Store

variable {b p k j : ℕ} {off : Fin 3 → ℕ} (hoff : off = ![b, 2 * j + p, 16 * k])
  {inb : ∀ a, off a + S1x1x16.size a ≤ S2x32x1024.size a} {w : S1x1x16.Idx → Elt F .f32} {f : OC F}

include hoff in
/-- A sixteen-lane store leaves the elements outside its lanes; -/
theorem store_miss (y : S2x32x1024.Idx) (hy : (y 0).val ≠ b ∨ (y 1).val ≠ 2 * j + p ∨ (y 2).val < 16 * k ∨ 16 * k + 16 ≤ (y 2).val) :
    (oB).view.writes (Elt F) f [⟨Rect.unit (s := S2x32x1024) off S1x1x16.size inb, w⟩] y = f y := by
  subst hoff
  refine (View.read_writes_cons_miss (Val := Elt F) (oB).view f _ [] y ?_)
  rw [Rect.mem_set_unit]
  intro h
  have h0 := h 0; have h1 := h 1; have h2 := h 2
  simp [S1x1x16, Shape.size] at h0 h1 h2
  omega

include hoff in
/-- and writes its lanes. -/
theorem store_hit (y : S2x32x1024.Idx) (h0 : (y 0).val = b) (h1 : (y 1).val = 2 * j + p) (h2 : 16 * k ≤ (y 2).val) (h3 : (y 2).val < 16 * k + 16)
    (T : OC F) (hw : ∀ x : S1x1x16.Idx, w x = T ((Rect.unit (s := S2x32x1024) off S1x1x16.size inb).emb x)) :
    (oB).view.writes (Elt F) f [⟨Rect.unit (s := S2x32x1024) off S1x1x16.size inb, w⟩] y = T y := by
  have hm : y ∈ (Rect.unit (s := S2x32x1024) off S1x1x16.size inb).set := by
    rw [Rect.mem_set_unit]; subst hoff
    intro a; fin_cases a <;> simp [S1x1x16, Shape.size] <;> omega
  rw [← Rect.map_emb_univ] at hm
  obtain ⟨x, -, rfl⟩ := Finset.mem_map.mp hm
  exact (View.read_writes_cons_emb (Val := Elt F) (oB).view f _ w [] x).trans (hw x)

include hoff in
theorem Fill.store {T : OC F} (hw : ∀ x : S1x1x16.Idx, w x = T ((Rect.unit (s := S2x32x1024) off S1x1x16.size inb).emb x))
    (h : Fill b p T k j f) : Fill b p T k (j + 1) ((oB).view.writes (Elt F) f [⟨Rect.unit (s := S2x32x1024) off S1x1x16.size inb, w⟩]) := by
  intro y h0 h1 h2
  by_cases hy : (y 1).val = 2 * j + p ∧ 16 * k ≤ (y 2).val
  · exact store_hit hoff y h0 hy.1 hy.2 (by omega) T hw
  · rw [store_miss hoff y (by omega)]
    exact h y h0 h1 (by omega)

include hoff in
theorem Fill.store_other {T : OC F} {q k' j' : ℕ} (hp : p < 2) (hq : q ≠ p)
    (h : Fill b q T k' j' f) : Fill b q T k' j' ((oB).view.writes (Elt F) f [⟨Rect.unit (s := S2x32x1024) off S1x1x16.size inb, w⟩]) := by
  intro y h0 h1 h2
  rw [store_miss hoff y (by omega)]
  exact h y h0 h1 h2

include hoff in
theorem store_subset : ((oB).access (Rect.unit (s := S2x32x1024) off S1x1x16.size inb)).set ⊆ oSlot b := by
  subst hoff
  intro y hy
  rw [show ((oB).access (Rect.unit (s := S2x32x1024) _ S1x1x16.size inb)).set
      = (Rect.unit (s := S2x32x1024) ![b, 2 * j + p, 16 * k] S1x1x16.size inb).set from View.set_slice_whole _ _, Rect.mem_set_unit] at hy
  have h0 := hy 0
  rw [mem_oSlot]
  simp [S1x1x16, Shape.size] at h0
  omega

include hoff in
theorem loadOut_subset : (oB).view.setOn (Rect.unit (s := S2x32x1024) off S1x1x16.size inb).toLoadRect.set ⊆ oSlot b := by
  have h := store_subset hoff (inb := inb)
  rwa [View.set_slice] at h

end Store

theorem load_subset {b j k : ℕ} {off : Fin 3 → ℕ} (hoff : off = ![b, j, 16 * k]) {inb : ∀ a, off a + S1x1x16.size a ≤ S2x16x1024.size a} :
    (iB).view.setOn (Rect.unit (s := S2x16x1024) off S1x1x16.size inb).toLoadRect.set ⊆ iSlot b := by
  have h : ((iB).access (Rect.unit (s := S2x16x1024) off S1x1x16.size inb)).set ⊆ iSlot b := by
    subst hoff
    intro y hy
    rw [show ((iB).access (Rect.unit (s := S2x16x1024) _ S1x1x16.size inb)).set
        = (Rect.unit (s := S2x16x1024) ![b, j, 16 * k] S1x1x16.size inb).set from View.set_slice_whole _ _, Rect.mem_set_unit] at hy
    have h0 := hy 0
    rw [mem_iSlot]
    simp [S1x1x16, Shape.size] at h0
    omega
  rwa [View.set_slice] at h

/-! ## The two steps -/

/-- The element of the input scratch at a slot, a row and a column. -/
def iAt (b : Fin 2) (r : Fin 16) (c : Fin 1024) : S2x16x1024.Idx := fun | 0 => b | 1 => r | 2 => c

/-- A slot of the input scratch doubled: the element under row `r` of the output scratch comes from row `r / 2`. -/
def dbl [FloatOps F] (g : IC F) : OC F := fun y =>
  FloatOps.addf (g (iAt (y 0) ⟨(y 1).val / 2, by have := (y 1).isLt; change (y 1).val < 32 at this; omega⟩ (y 2)))
    (g (iAt (y 0) ⟨(y 1).val / 2, by have := (y 1).isLt; change (y 1).val < 32 at this; omega⟩ (y 2)))

/-- The zero that the odd rows hold. -/
def zeros [FloatOps F] : OC F := fun _ => Scalar.ofBits .f32 0x00000000#32

/-- The doubled lanes are the wanted ones. -/
theorem row_value [FloatOps F] {b j k : ℕ} {offi off : Fin 3 → ℕ} (hoffi : offi = ![b, j, 16 * k]) (hoff : off = ![b, 2 * j + 0, 16 * k])
    {inbi : ∀ a, offi a + S1x1x16.size a ≤ S2x16x1024.size a} {inb : ∀ a, off a + S1x1x16.size a ≤ S2x32x1024.size a} (g : IC F) (x : S1x1x16.Idx) :
    FloatOps.addf ((iB).view.readAt (Elt F) (Rect.unit (s := S2x16x1024) offi S1x1x16.size inbi).toLoadRect g x)
        ((iB).view.readAt (Elt F) (Rect.unit (s := S2x16x1024) offi S1x1x16.size inbi).toLoadRect g x)
      = dbl g ((Rect.unit (s := S2x32x1024) off S1x1x16.size inb).emb x) := by
  have e : (iB).view.readAt (Elt F) (Rect.unit (s := S2x16x1024) offi S1x1x16.size inbi).toLoadRect g x
      = g ((Rect.unit (s := S2x16x1024) offi S1x1x16.size inbi).emb x) := rfl
  rw [e]; unfold dbl
  subst hoffi hoff
  have e2 : (Rect.unit (s := S2x16x1024) ![b, j, 16 * k] S1x1x16.size inbi).emb x
      = iAt ((Rect.unit (s := S2x32x1024) ![b, 2 * j + 0, 16 * k] S1x1x16.size inb).emb x 0)
          ⟨((Rect.unit (s := S2x32x1024) ![b, 2 * j + 0, 16 * k] S1x1x16.size inb).emb x 1).val / 2, by
            have := ((Rect.unit (s := S2x32x1024) ![b, 2 * j + 0, 16 * k] S1x1x16.size inb).emb x 1).isLt
            change ((Rect.unit (s := S2x32x1024) ![b, 2 * j + 0, 16 * k] S1x1x16.size inb).emb x 1).val < 32 at this; omega⟩
          ((Rect.unit (s := S2x32x1024) ![b, 2 * j + 0, 16 * k] S1x1x16.size inb).emb x 2) := by
    have h1 := (x 1).isLt
    change (x 1).val < 1 at h1
    funext a
    apply Fin.ext
    fin_cases a
    · rfl
    · show j + 1 * (x 1).val = (2 * j + 0 + 1 * (x 1).val) / 2
      omega
    · rfl
  rw [e2]

variable [FloatOps F] (d : Dev nD) (L : grid0.Coords)

/-- Slot `b` of the output scratch, its odd rows zero on the first `16 k` columns (and `j` rows of the next sixteen). -/
def ZSlot (b k j : ℕ) : sProp 𝕄 :=
  iprop(∃ f : OC F, ⌜Fill b 1 zeros k j f⌝ ∗ ((oB).view.loc (thr d L) ↦[oSlot b]{fullShare} f))

/-- Slot `b` of the output scratch, its odd rows zero, its even rows `T` so far. -/
def DSlot (b : ℕ) (T : OC F) (k j : ℕ) : sProp 𝕄 :=
  iprop(∃ f : OC F, ⌜Fill b 1 zeros 64 0 f ∧ Fill b 0 T k j f⌝ ∗ ((oB).view.loc (thr d L) ↦[oSlot b]{fullShare} f))

theorem ZSlot.next {b k : ℕ} : ZSlot (F := F) d L b k 16 ⊢ ZSlot d L b (k + 1) 0 := by
  unfold ZSlot
  iintro ⟨%f, %hf, H⟩
  iexists f; isplitr; · ipureintro; exact hf.next
  iexact H

theorem DSlot.next {b k : ℕ} {T : OC F} : DSlot (F := F) d L b T k 16 ⊢ DSlot d L b T (k + 1) 0 := by
  unfold DSlot
  iintro ⟨%f, %hf, H⟩
  iexists f; isplitr; · ipureintro; exact ⟨hf.1, hf.2.next⟩
  iexact H

/-- The kernel's store of zeros into an odd row, and the load before it that nobody reads. -/
theorem zero_step (b k j : ℕ) {off : Fin 3 → ℕ} (hoff : off = ![b, 2 * j + 1, 16 * k])
    {inb : ∀ a, off a + S1x1x16.size a ≤ S2x32x1024.size a} {w : S1x1x16.Idx → Elt F .f32} (hw : ∀ x, w x = Scalar.ofBits .f32 0x00000000#32)
    {hl hx hm} {kk : PUnit → Prog (TpuEff nD τ sig (Elt F) Λ₀ (thr d L).2) (BitVec 32)} {Q} :
    ZSlot d L b k j
      ⊢ iprop((ZSlot d L b k (j + 1) -∗ wp frame (wpE (defs₀ (F := F)) 𝒱₀ (thr d L) none) Set.univ (kk ⟨⟩) Q)
        -∗ wp frame (wpE (defs₀ (F := F)) 𝒱₀ (thr d L) none) Set.univ
            (.op (.load oB (Rect.unit (s := S2x32x1024) off S1x1x16.size inb).toLoadRect hl) fun _ =>
              .op (.store oB (Rect.unit (s := S2x32x1024) off S1x1x16.size inb) w Finset.univ hx hm) kk) Q) := by
  unfold ZSlot
  iintro ⟨%f, %hf, H⟩ Hk
  iapply (wp_load 𝒱₀ (thr d L) none Set.univ (m := oB) (loadOut_subset hoff (inb := inb))) $$ [H]; · iexact H
  iintro H
  iapply (wp_store_writes₀ 𝒱₀ (thr d L) none Set.univ (m := oB) (store_subset hoff (inb := inb))) $$ [H]; · iexact H
  iintro H
  iapply Hk
  iexists _; isplitr
  swap; · iexact H
  ipureintro
  exact hf.store hoff fun x => (hw x).trans rfl

/-- The load of sixteen lanes of a row of the input scratch, and their doubles stored into an even row. -/
theorem row_step (b k j : ℕ) (g : IC F) {offi : Fin 3 → ℕ} (hoffi : offi = ![b, j, 16 * k]) {off : Fin 3 → ℕ} (hoff : off = ![b, 2 * j + 0, 16 * k])
    {inbi : ∀ a, offi a + S1x1x16.size a ≤ S2x16x1024.size a}
    {inb : ∀ a, off a + S1x1x16.size a ≤ S2x32x1024.size a} {pay : (S1x1x16.Idx → Elt F .f32) → S1x1x16.Idx → Elt F .f32}
    (hpay : ∀ v x, pay v x = FloatOps.addf (v x) (v x))
    {hli hl hx hm} {kk : PUnit → Prog (TpuEff nD τ sig (Elt F) Λ₀ (thr d L).2) (BitVec 32)} {Q} :
    iprop(((iB).view.loc (thr d L) ↦[iSlot b]{fullShare} g) ∗ DSlot d L b (dbl g) k j)
      ⊢ iprop((((iB).view.loc (thr d L) ↦[iSlot b]{fullShare} g) ∗ DSlot d L b (dbl g) k (j + 1)
            -∗ wp frame (wpE (defs₀ (F := F)) 𝒱₀ (thr d L) none) Set.univ (kk ⟨⟩) Q)
        -∗ wp frame (wpE (defs₀ (F := F)) 𝒱₀ (thr d L) none) Set.univ
            (.op (.load iB (Rect.unit (s := S2x16x1024) offi S1x1x16.size inbi).toLoadRect hli) fun v =>
              .op (.load oB (Rect.unit (s := S2x32x1024) off S1x1x16.size inb).toLoadRect hl) fun _ =>
              .op (.store oB (Rect.unit (s := S2x32x1024) off S1x1x16.size inb) (pay v) Finset.univ hx hm) kk) Q) := by
  unfold DSlot
  iintro ⟨Hi, %f, %hf, H⟩ Hk
  iapply (wp_load 𝒱₀ (thr d L) none Set.univ (m := iB) (load_subset hoffi (inb := inbi))) $$ [Hi]; · iexact Hi
  iintro Hi
  iapply (wp_load 𝒱₀ (thr d L) none Set.univ (m := oB) (loadOut_subset hoff (inb := inb))) $$ [H]; · iexact H
  iintro H
  iapply (wp_store_writes₀ 𝒱₀ (thr d L) none Set.univ (m := oB) (store_subset hoff (inb := inb))) $$ [H]; · iexact H
  iintro H
  iapply Hk
  isplitl [Hi]; · iexact Hi
  iexists _; isplitr
  swap; · iexact H
  ipureintro
  refine ⟨hf.1.store_other hoff (by omega) (by omega), hf.2.store hoff fun x => (hpay _ x).trans ?_⟩
  exact row_value hoffi hoff g x

/-- The store of zeros, beside whatever else is held. -/
theorem zero_next {b k j : ℕ} {R : sProp 𝕄} {off : Fin 3 → ℕ} {inb : ∀ a, off a + S1x1x16.size a ≤ S2x32x1024.size a} {w : S1x1x16.Idx → Elt F .f32}
    {hl hx hm} {kk : PUnit → Prog (TpuEff nD τ sig (Elt F) Λ₀ (thr d L).2) (BitVec 32)} {Q}
    (hoff : off = ![b, 2 * j + 1, 16 * k]) (hw : ∀ x, w x = Scalar.ofBits .f32 0x00000000#32)
    (h : iprop(ZSlot d L b k (j + 1) ∗ R) ⊢ wp frame (wpE (defs₀ (F := F)) 𝒱₀ (thr d L) none) Set.univ (kk ⟨⟩) Q) :
    iprop(ZSlot d L b k j ∗ R)
      ⊢ wp frame (wpE (defs₀ (F := F)) 𝒱₀ (thr d L) none) Set.univ
            (.op (.load oB (Rect.unit (s := S2x32x1024) off S1x1x16.size inb).toLoadRect hl) fun _ =>
              .op (.store oB (Rect.unit (s := S2x32x1024) off S1x1x16.size inb) w Finset.univ hx hm) kk) Q := by
  iintro ⟨H, HR⟩
  iapply (zero_step d L b k j hoff hw) $$ [H]; · iexact H
  iintro H
  iapply h
  isplitl [H] <;> iassumption

/-- The doubled lanes, beside whatever else is held. -/
theorem row_next {b k j : ℕ} {g : IC F} {R : sProp 𝕄} {offi : Fin 3 → ℕ} {off : Fin 3 → ℕ} {inbi : ∀ a, offi a + S1x1x16.size a ≤ S2x16x1024.size a}
    {inb : ∀ a, off a + S1x1x16.size a ≤ S2x32x1024.size a} {pay : (S1x1x16.Idx → Elt F .f32) → S1x1x16.Idx → Elt F .f32}
    {hli hl hx hm} {kk : PUnit → Prog (TpuEff nD τ sig (Elt F) Λ₀ (thr d L).2) (BitVec 32)} {Q}
    (hoffi : offi = ![b, j, 16 * k]) (hoff : off = ![b, 2 * j + 0, 16 * k]) (hpay : ∀ v x, pay v x = FloatOps.addf (v x) (v x))
    (h : iprop((((iB).view.loc (thr d L) ↦[iSlot b]{fullShare} g) ∗ DSlot d L b (dbl g) k (j + 1)) ∗ R)
      ⊢ wp frame (wpE (defs₀ (F := F)) 𝒱₀ (thr d L) none) Set.univ (kk ⟨⟩) Q) :
    iprop((((iB).view.loc (thr d L) ↦[iSlot b]{fullShare} g) ∗ DSlot d L b (dbl g) k j) ∗ R)
      ⊢ wp frame (wpE (defs₀ (F := F)) 𝒱₀ (thr d L) none) Set.univ
            (.op (.load iB (Rect.unit (s := S2x16x1024) offi S1x1x16.size inbi).toLoadRect hli) fun v =>
              .op (.load oB (Rect.unit (s := S2x32x1024) off S1x1x16.size inb).toLoadRect hl) fun _ =>
              .op (.store oB (Rect.unit (s := S2x32x1024) off S1x1x16.size inb) (pay v) Finset.univ hx hm) kk) Q := by
  iintro ⟨H, HR⟩
  iapply (row_step d L b k j g hoffi hoff hpay) $$ [H]; · iexact H
  iintro H
  iapply h
  isplitl [H] <;> iassumption

end Cert.KernelIdeal.Tiles

end
-- ==== Proof.Ideal.Inner.lean ====
/-
  The three inner loops of a tile: the zeros written into the odd rows of both slots, before the first chunk, and a slot's
  sixteen rows doubled, sixteen columns at a trip.
-/
module

public import proofs.«01_k».proof.Proof.Ideal.Rows
public import Idealize.ShloMosaic.Lib.Pipeline.Value

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

set_option maxHeartbeats 4000000 in
/-- One trip of the zeroing loop: sixteen columns of every odd row of both slots. -/
theorem zero_trip (t : Fin k0_t1_loop.trips) (acc : BitVec 32) {h2 h3 h4 h5} :
    iprop(ZSlot (F := F) d L 0 t.val 0 ∗ ZSlot d L 1 t.val 0)
      ⊢ wp frame (wpE (defs₀ (F := F)) 𝒱₀ (thr d L) none) Set.univ
          (k0_t1_body (F := F) L xV h2 oV h3 iB h4 oB h5 cc0_scratch2 cc0_scratch3 cc0_scratch4 cc0_scratch5 t acc)
          fun _ => iprop(ZSlot d L 0 (t.val + 1) 0 ∗ ZSlot d L 1 (t.val + 1) 0) := by
  unfold k0_t1_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, Prog.bind_assoc]
  iterate 16 (refine zero_next d L (by exact ClosedOff.eq) (fun _ => rfl) ?_)
  refine sep_symm.trans ?_
  iterate 16 (refine zero_next d L (by exact ClosedOff.eq) (fun _ => rfl) ?_)
  iintro ⟨H1, H0⟩
  sl_step
  isplitl [H0]
  · iapply (ZSlot.next d L) $$ H0
  · iapply (ZSlot.next d L) $$ H1

/-- Flattened, doubled and brought back, sixteen lanes are doubled. -/
theorem lanes_doubled (v : Vec F S1x1x16 .f32) (x : S1x1x16.Idx) :
    (shapeCast S1x1x16 (addf (shapeCast S16 v shapeCasts_S1x1x16_S16 : FVec F S16 .f32) (shapeCast S16 v shapeCasts_S1x1x16_S16)) shapeCasts_S16_S1x1x16
      : FVec F S1x1x16 .f32) x = FloatOps.addf (v x) (v x) := by
  have h := congrFun (Idealize.ShloMosaic.shapeCast_shapeCast (t := S16) v shapeCasts_S1x1x16_S16 shapeCasts_S16_S1x1x16) x
  exact congrArg (fun a : F .f32 => FloatOps.addf a a) h

/-- What a doubling loop carries: the slot of the input scratch, and the slot of the output scratch so far. -/
abbrev Doubling (b : ℕ) (g : IC F) (k j : ℕ) : sProp 𝕄 :=
  iprop(((iB).view.loc (thr d L) ↦[iSlot b]{fullShare} g) ∗ DSlot d L b (dbl g) k j)

set_option maxHeartbeats 4000000 in
/-- One trip of the first slot's doubling loop. -/
theorem double_trip0 (v2 : BitVec 32) (i : Fin k0_t2_loop.trips) (t : Fin k0_t3_loop.trips) (acc : BitVec 32) (g : IC F) {h2 h3 h4 h5} :
    Doubling d L 0 g t.val 0
      ⊢ wp frame (wpE (defs₀ (F := F)) 𝒱₀ (thr d L) none) Set.univ
          (k0_t3_body (F := F) L xV h2 oV h3 iB h4 oB h5 cc0_scratch2 cc0_scratch3 cc0_scratch4 cc0_scratch5 v2 0#32 1#32 i t acc)
          fun _ => Doubling d L 0 g (t.val + 1) 0 := by
  unfold k0_t3_body
  simp only [k0_part5_eq_skeleton, k0_part6_eq_skeleton, k0_part7_eq_skeleton, k0_part8_eq_skeleton]
  unfold k0_part5_skel k0_part6_skel k0_part7_skel k0_part8_skel
  simp only [Prog.lift, Prog.bind_op, Prog.bind_ret, Prog.pure_eq_ret, Prog.bind_assoc]
  refine (BIBase.Entails.trans BIClass.emp_sep.mpr sep_symm).trans ?_
  iterate 16 (refine row_next d L (by exact ClosedOff.eq) (by exact ClosedOff.eq) lanes_doubled ?_)
  iintro ⟨⟨Hi, Ho⟩, -⟩
  sl_step
  isplitl [Hi]; · iexact Hi
  iapply (DSlot.next d L) $$ Ho

set_option maxHeartbeats 4000000 in
/-- One trip of the second slot's doubling loop. -/
theorem double_trip1 (v2 arg10 v35 : BitVec 32) (i : Fin k0_t2_loop.trips) (t : Fin k0_t4_loop.trips) (acc : BitVec 32) (g : IC F) {h2 h3 h4 h5} :
    Doubling d L 1 g t.val 0
      ⊢ wp frame (wpE (defs₀ (F := F)) 𝒱₀ (thr d L) none) Set.univ
          (k0_t4_body (F := F) L xV h2 oV h3 iB h4 oB h5 cc0_scratch2 cc0_scratch3 cc0_scratch4 cc0_scratch5 v2 i arg10 v35 t acc)
          fun _ => Doubling d L 1 g (t.val + 1) 0 := by
  unfold k0_t4_body
  simp only [k0_part9_eq_skeleton, k0_part10_eq_skeleton, k0_part11_eq_skeleton, k0_part12_eq_skeleton]
  unfold k0_part9_skel k0_part10_skel k0_part11_skel k0_part12_skel
  simp only [Prog.lift, Prog.bind_op, Prog.bind_ret, Prog.pure_eq_ret, Prog.bind_assoc]
  refine (BIBase.Entails.trans BIClass.emp_sep.mpr sep_symm).trans ?_
  iterate 16 (refine row_next d L (by exact ClosedOff.eq) (by exact ClosedOff.eq) lanes_doubled ?_)
  iintro ⟨⟨Hi, Ho⟩, -⟩
  sl_step
  isplitl [Hi]; · iexact Hi
  iapply (DSlot.next d L) $$ Ho

end Cert.KernelIdeal.Tiles

end
-- ==== Proof.Ideal.Slices.lean ====
/-
  The slices that a tile's copies go through: which elements each has, and what a copy through a pair of them leaves.
-/
module

public import proofs.«01_k».proof.Proof.Ideal.Inner

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Contents of the input, of the result. -/
abbrev XC (F : FTy → Type) : Type := S8192x1024.Idx → Elt F .f32
abbrev RC (F : FTy → Type) : Type := S16384x1024.Idx → Elt F .f32

/-! ## The slices -/

/-- Sixteen rows of the input; a slot of the input scratch; a slot of the output scratch; thirty-two rows of the result. -/
abbrev xSl (off : Fin 2 → ℕ) (inb : ∀ a, off a + S16x1024.size a ≤ S8192x1024.size a) : Memref sig .scVector .hbm S16x1024 .f32 :=
  (xV).slice (Rect.unit (s := S8192x1024) off S16x1024.size inb) (fun _ => rfl)
abbrev iSl (off : Fin 3 → ℕ) (inb : ∀ a, off a + S1x16x1024.size a ≤ S2x16x1024.size a) : Memref sig .scVector .vmem S16x1024 .f32 :=
  ((iB).slice (Rect.unit (s := S2x16x1024) off S1x16x1024.size inb) (fun _ => rfl)).squeeze S16x1024 squeezes_S1x16x1024_S16x1024
abbrev oSl (off : Fin 3 → ℕ) (inb : ∀ a, off a + S1x32x1024.size a ≤ S2x32x1024.size a) : Memref sig .scVector .vmem S32x1024 .f32 :=
  ((oB).slice (Rect.unit (s := S2x32x1024) off S1x32x1024.size inb) (fun _ => rfl)).squeeze S32x1024 squeezes_S1x32x1024_S32x1024
abbrev rSl (off : Fin 2 → ℕ) (inb : ∀ a, off a + S32x1024.size a ≤ S16384x1024.size a) : Memref sig .scVector .hbm S32x1024 .f32 :=
  (oV).slice (Rect.unit (s := S16384x1024) off S32x1024.size inb) (fun _ => rfl)

theorem xSl_set {n : ℕ} {off : Fin 2 → ℕ} (hoff : off = ![16 * n, 0]) {inb} : (xSl off inb).view.set = xRows n := by
  subst hoff
  rw [show (xSl ![16 * n, 0] inb).view.set = (Rect.unit (s := S8192x1024) ![16 * n, 0] S16x1024.size inb).set from View.set_slice_whole _ _]
  ext p
  have h1 := (p 1).isLt
  change (p 1).val < 1024 at h1
  rw [Rect.mem_set_unit, mem_xRows]
  constructor
  · intro h
    have := h 0
    simp [S16x1024, Shape.size] at this
    omega
  · intro h a
    fin_cases a <;> simp [S16x1024, Shape.size] <;> omega

theorem rSl_set {n : ℕ} {off : Fin 2 → ℕ} (hoff : off = ![32 * n, 0]) {inb} : (rSl off inb).view.set = oRows n := by
  subst hoff
  rw [show (rSl ![32 * n, 0] inb).view.set = (Rect.unit (s := S16384x1024) ![32 * n, 0] S32x1024.size inb).set from View.set_slice_whole _ _]
  ext p
  have h1 := (p 1).isLt
  change (p 1).val < 1024 at h1
  rw [Rect.mem_set_unit, mem_oRows]
  constructor
  · intro h
    have := h 0
    simp [S32x1024, Shape.size] at this
    omega
  · intro h a
    fin_cases a <;> simp [S32x1024, Shape.size] <;> omega

theorem iSl_set {b : ℕ} {off : Fin 3 → ℕ} (hoff : off = ![b, 0, 0]) {inb} : (iSl off inb).view.set = iSlot b := by
  subst hoff
  rw [show (iSl ![b, 0, 0] inb).view.set = (Rect.unit (s := S2x16x1024) ![b, 0, 0] S1x16x1024.size inb).set from
    (View.set_reshape _ _).trans (View.set_slice_whole _ _)]
  ext p
  have h1 := (p 1).isLt
  have h2 := (p 2).isLt
  change (p 1).val < 16 at h1
  change (p 2).val < 1024 at h2
  rw [Rect.mem_set_unit, mem_iSlot]
  constructor
  · intro h
    have := h 0
    simp [S1x16x1024, Shape.size] at this
    omega
  · intro h a
    fin_cases a <;> simp [S1x16x1024, Shape.size] <;> omega

theorem oSl_set {b : ℕ} {off : Fin 3 → ℕ} (hoff : off = ![b, 0, 0]) {inb} : (oSl off inb).view.set = oSlot b := by
  subst hoff
  rw [show (oSl ![b, 0, 0] inb).view.set = (Rect.unit (s := S2x32x1024) ![b, 0, 0] S1x32x1024.size inb).set from
    (View.set_reshape _ _).trans (View.set_slice_whole _ _)]
  ext p
  have h1 := (p 1).isLt
  have h2 := (p 2).isLt
  change (p 1).val < 32 at h1
  change (p 2).val < 1024 at h2
  rw [Rect.mem_set_unit, mem_oSlot]
  constructor
  · intro h
    have := h 0
    simp [S1x32x1024, Shape.size] at this
    omega
  · intro h a
    fin_cases a <;> simp [S1x32x1024, Shape.size] <;> omega

/-! ## The elements, by coordinates -/

theorem iSl_emb {b : ℕ} {off : Fin 3 → ℕ} (hoff : off = ![b, 0, 0]) {inb} (x : S16x1024.Idx) :
    ((iSl off inb).view.emb x 0).val = b ∧ ((iSl off inb).view.emb x 1).val = (x 0).val ∧ ((iSl off inb).view.emb x 2).val = (x 1).val := by
  subst hoff
  have e : (iSl ![b, 0, 0] inb).view.emb x = (Rect.unit (s := S2x16x1024) ![b, 0, 0] S1x16x1024.size inb).emb
      (Shape.reshapeEquiv (Shape.Squeezes.numel_eq squeezes_S1x16x1024_S16x1024) x) := rfl
  rw [e, show Shape.reshapeEquiv (Shape.Squeezes.numel_eq squeezes_S1x16x1024_S16x1024) x = (Fin.cons ⟨0, Nat.one_pos⟩ x : S1x16x1024.Idx) from
    Shape.reshapeEquiv_cons_one (d := ![16, 1024]) _ x]
  refine ⟨?_, ?_, ?_⟩
  · show b + 1 * 0 = b; omega
  · show 0 + 1 * (x 0).val = _; omega
  · show 0 + 1 * (x 1).val = _; omega

theorem oSl_emb {b : ℕ} {off : Fin 3 → ℕ} (hoff : off = ![b, 0, 0]) {inb} (x : S32x1024.Idx) :
    ((oSl off inb).view.emb x 0).val = b ∧ ((oSl off inb).view.emb x 1).val = (x 0).val ∧ ((oSl off inb).view.emb x 2).val = (x 1).val := by
  subst hoff
  have e : (oSl ![b, 0, 0] inb).view.emb x = (Rect.unit (s := S2x32x1024) ![b, 0, 0] S1x32x1024.size inb).emb
      (Shape.reshapeEquiv (Shape.Squeezes.numel_eq squeezes_S1x32x1024_S32x1024) x) := rfl
  rw [e, show Shape.reshapeEquiv (Shape.Squeezes.numel_eq squeezes_S1x32x1024_S32x1024) x = (Fin.cons ⟨0, Nat.one_pos⟩ x : S1x32x1024.Idx) from
    Shape.reshapeEquiv_cons_one (d := ![32, 1024]) _ x]
  refine ⟨?_, ?_, ?_⟩
  · show b + 1 * 0 = b; omega
  · show 0 + 1 * (x 0).val = _; omega
  · show 0 + 1 * (x 1).val = _; omega

theorem xSl_emb {n : ℕ} {off : Fin 2 → ℕ} (hoff : off = ![16 * n, 0]) {inb} (x : S16x1024.Idx) :
    ((xSl off inb).view.emb x 0).val = 16 * n + (x 0).val ∧ ((xSl off inb).view.emb x 1).val = (x 1).val := by
  subst hoff
  refine ⟨?_, ?_⟩
  · show 16 * n + 1 * (x 0).val = _; omega
  · show 0 + 1 * (x 1).val = _; omega

theorem rSl_emb {n : ℕ} {off : Fin 2 → ℕ} (hoff : off = ![32 * n, 0]) {inb} (x : S32x1024.Idx) :
    ((rSl off inb).view.emb x 0).val = 32 * n + (x 0).val ∧ ((rSl off inb).view.emb x 1).val = (x 1).val := by
  subst hoff
  refine ⟨?_, ?_⟩
  · show 32 * n + 1 * (x 0).val = _; omega
  · show 0 + 1 * (x 1).val = _; omega

/-! ## What the copies leave -/

/-- Slot `b` of the input scratch holds the input's rows from `16 n`. -/
def Holds (b n : ℕ) (X : XC F) (g : IC F) : Prop :=
  ∀ z : S2x16x1024.Idx, (z 0).val = b → ∀ p : S8192x1024.Idx, (p 0).val = 16 * n + (z 1).val → (p 1).val = (z 2).val → g z = X p

/-- The copy in leaves the rows in the slot. -/
theorem holds_write {b n : ℕ} {off : Fin 2 → ℕ} (hoff : off = ![16 * n, 0]) {inb} {offb : Fin 3 → ℕ} (hoffb : offb = ![b, 0, 0]) {inbb} (X : XC F) (g : IC F) :
    Holds b n X ((iSl offb inbb).view.write (Elt F) g ((xSl off inb).view.read (Elt F) X) Finset.univ) := by
  intro z hz p hp0 hp1
  have hm : z ∈ (iSl offb inbb).view.set := by rw [iSl_set hoffb]; exact mem_iSlot.mpr hz
  obtain ⟨x, -, rfl⟩ := Finset.mem_map.mp hm
  have h1 := iSl_emb hoffb (inb := inbb) x
  have h2 := xSl_emb hoff (inb := inb) x
  have e : p = (xSl off inb).view.emb x := by
    funext a; apply Fin.ext
    match a with
    | 0 => rw [h2.1, hp0, h1.2.1]
    | 1 => rw [h2.2, hp1, h1.2.2]
  subst e
  exact View.write_emb_of_mem (Val := Elt F) (v := (iSl offb inbb).view) g _ (Finset.mem_univ x)

/-- The result over an input: an even row is a row of the input doubled, an odd row is zero. -/
def want [FloatOps F] (X : XC F) : RC F := fun p =>
  if (p 0).val % 2 = 0 then
    FloatOps.addf (X (fun | 0 => ⟨(p 0).val / 2, by have := (p 0).isLt; change (p 0).val < 16384 at this; change _ < 8192; omega⟩ | 1 => p 1))
      (X (fun | 0 => ⟨(p 0).val / 2, by have := (p 0).isLt; change (p 0).val < 16384 at this; change _ < 8192; omega⟩ | 1 => p 1))
  else Scalar.ofBits .f32 0x00000000#32

/-- The copy out leaves on its rows the result's. -/
theorem want_write [FloatOps F] {b n : ℕ} {off : Fin 2 → ℕ} (hoff : off = ![32 * n, 0]) {inb} {offb : Fin 3 → ℕ} (hoffb : offb = ![b, 0, 0]) {inbb}
    {X : XC F} {g : IC F} {f : OC F} (hg : Holds b n X g) (hz : Fill b 1 zeros 64 0 f) (hd : Fill b 0 (dbl g) 64 0 f) (r : RC F) :
    ∀ p ∈ oRows n, (rSl off inb).view.write (Elt F) r ((oSl offb inbb).view.read (Elt F) f) Finset.univ p = want X p := by
  intro p hp
  rw [← rSl_set hoff (inb := inb)] at hp
  obtain ⟨x, -, rfl⟩ := Finset.mem_map.mp hp
  refine (View.write_emb_of_mem (Val := Elt F) (v := (rSl off inb).view) r _ (Finset.mem_univ x)).trans ?_
  change f ((oSl offb inbb).view.emb x) = _
  have h1 := oSl_emb hoffb (inb := inbb) x
  have h2 := rSl_emb hoff (inb := inb) x
  unfold want
  split
  · next hpar =>
    rw [hd.all _ h1.1 (by omega)]
    unfold dbl
    have e := hg (iAt ((oSl offb inbb).view.emb x 0) ⟨((oSl offb inbb).view.emb x 1).val / 2, by
          have := ((oSl offb inbb).view.emb x 1).isLt; change ((oSl offb inbb).view.emb x 1).val < 32 at this; omega⟩ ((oSl offb inbb).view.emb x 2))
      h1.1 (fun | 0 => ⟨((rSl off inb).view.emb x 0).val / 2, by
          have := ((rSl off inb).view.emb x 0).isLt; change ((rSl off inb).view.emb x 0).val < 16384 at this; change _ < 8192; omega⟩
                | 1 => (rSl off inb).view.emb x 1)
      (by show ((rSl off inb).view.emb x 0).val / 2 = 16 * n + ((oSl offb inbb).view.emb x 1).val / 2; rw [h2.1, h1.2.1]; omega)
      (by show ((rSl off inb).view.emb x 1).val = ((oSl offb inbb).view.emb x 2).val; rw [h2.2, h1.2.2])
    exact congrArg (fun a : F .f32 => FloatOps.addf a a) e
  · next hpar =>
    rw [hz.all _ h1.1 (by omega)]
    rfl

end Cert.KernelIdeal.Tiles

end
-- ==== Proof.Ideal.Copies.lean ====
/-
  A tile's four kinds of step on its transfers: a chunk's copy in started, the wait for it, a chunk's copy out started, the
  wait for that. Each takes and gives what the tile holds around it.
-/
module

public import proofs.«01_k».proof.Proof.Ideal.Slices

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)

/-- The chunk `ch` of the tile, among all the chunks of the call. -/
def ck (ch : ℕ) : ℕ := 16 * (2 * (L 1).val + (L 0).val) + ch

/-- What a copy in, and a copy out, counts on its semaphore. -/
abbrev Nin : ℕ := (iSl ![0, 0, 0] inb_S2x16x1024_S1x16x1024_0_0_0).view.dmaCredit
abbrev Nout : ℕ := (rSl ![0, 0] inb_S16384x1024_S32x1024_0_0).view.dmaCredit

/-- The tile's read share of the input, on a set of elements. -/
abbrev XOn (q : PosShare TreeShare) (X : XC F) (s : Finset S8192x1024.Idx) : sProp 𝕄 := (xV).view.loc (thr d L) ↦[s]{q} X
/-- Elements of the result. -/
abbrev ROn (s : Finset S16384x1024.Idx) (r : RC F) : sProp 𝕄 := (oV).view.loc (thr d L) ↦[s]{fullShare} r
/-- Slot `b` of the input scratch at some contents; holding the input's rows from `16 n`. -/
def ISlot (b : ℕ) : sProp 𝕄 := iprop(∃ g : IC F, (iB).view.loc (thr d L) ↦[iSlot b]{fullShare} g)
def InSlot (b n : ℕ) (X : XC F) : sProp 𝕄 := iprop(∃ g : IC F, ⌜Holds b n X g⌝ ∗ ((iB).view.loc (thr d L) ↦[iSlot b]{fullShare} g))
/-- What is waited for so far: each wait of the tile is at no round. -/
def Owing (O : CellTallies nD τ sig (HIx 1)) (W : Waits sig (HIx 1)) : sProp 𝕄 :=
  iprop(∃ W', ⌜∀ p ∈ W', p ∈ W ∨ p.2 = none⌝ ∗ owes (thr d L) O W')

/-- A copy in under way: at its wait it gives the slot filled, and the input's rows back. -/
def FIn (sm : DmaSem sig) (b n : ℕ) (q : PosShare TreeShare) (X : XC F) : sProp 𝕄 :=
  Transfers.Flight countersEmb (thr d L) (.dma sm) (none : HIx 1) Nin iprop(InSlot d L b n X ∗ XOn d L q X (xRows n))
/-- A copy out under way: at its wait it gives the result's rows, and the slot, its odd rows still zero. -/
def FOut (sm : DmaSem sig) (b n : ℕ) (X : XC F) : sProp 𝕄 :=
  Transfers.Flight countersEmb (thr d L) (.dma sm) (none : HIx 1) Nout iprop(ROn d L (oRows n) (want X) ∗ ZSlot d L b 64 0)

section Steps

variable {b n : ℕ} {sm : DmaSem sig} {X : XC F} {α : Type} {kk : PUnit → Prog (TpuEff nD τ sig (Elt F) Λ₀ (thr d L).2) α}

theorem start_in {Q} {q : PosShare TreeShare} {off : Fin 2 → ℕ} (hoff : off = ![16 * n, 0]) {inb} {offb : Fin 3 → ℕ} (hoffb : offb = ![b, 0, 0]) {inbb} {h1 h2 h3} :
    iprop(ISlot (F := F) d L b ∗ XOn d L q X Finset.univ ∗ semVal (thr d L, .dma sm) 0)
      ⊢ iprop(((FIn d L sm b n q X ∗ XOn d L q X (Finset.univ \ xRows n))
            -∗ wp frame (wpE (defs₀ (F := F)) 𝒱₀ (thr d L) none) Set.univ (kk ⟨⟩) Q)
        -∗ wp frame (wpE (defs₀ (F := F)) 𝒱₀ (thr d L) none) Set.univ
            (.op (.enqueueDma (xSl off inb) (.here (iSl offb inbb)) (.dma sm) h1 h2 h3) kk) Q) := by
  unfold ISlot FIn
  iintro ⟨⟨%g, Hi⟩, Hx, Hs⟩ Hk
  have hx : (xSl off inb).view.set = xRows n := xSl_set hoff
  have hi : (iSl offb inbb).view.set ⊆ iSlot b := by rw [iSl_set hoffb]
  ihave Hx := (pointsTo_split_subset (q := q) (f := X) (S := Finset.univ) (Finset.subset_univ (xRows n))).1 $$ Hx
  icases Hx with ⟨Hx, Hr⟩
  iapply (Transfers.wp_dmaLocal countersEmb 𝒱₀ (thr d L) none (src := xSl off inb) (via := .same) (dst := iSl offb inbb) (sm := .dma sm)
    (q := q) (fs := X) (Sd := iSlot b) (fd := g) (none : HIx 1) Nin rfl (View.dmaCredit_pos _ (by decide)) hi) $$ [Hx Hi Hs]
  · isplitl [Hx]; · rw [hx]; iexact Hx
    isplitl [Hi]; · iexact Hi
    iexact Hs
  iintro Hf
  iapply Hk
  isplitl [Hf]
  swap; · iexact Hr
  iapply (Transfers.Flight_mono countersEmb (thr d L) (D' := iprop(InSlot d L b n X ∗ XOn d L q X (xRows n))) ?_) $$ Hf
  rw [hx]
  unfold InSlot
  iintro ⟨Hi, Hx⟩
  isplitl [Hi]
  · iexists _; isplitr
    swap; · iexact Hi
    ipureintro
    exact holds_write hoff hoffb X g
  iexact Hx

theorem wait_in {Q} {q : PosShare TreeShare} {O : CellTallies nD τ sig (HIx 1)} {W : Waits sig (HIx 1)}
    {sp sp' : Space} {s s' : Shape} {e e' : EltTy} {srcw : Memref sig (thr d L).2.kind sp' s' e'} {dstw : Memref sig .scVector sp s e}
    {h1 : srcw.view.WordExact} {h2 : dstw.view.WordExact} (hN : dstw.view.dmaCredit = Nin) :
    iprop(FIn d L sm b n q X ∗ XOn d L q X (Finset.univ \ xRows n) ∗ Owing (F := F) d L O W ∗ Transfers.MayWaits (thr d L) (none : HIx 1) O)
      ⊢ iprop(((InSlot d L b n X ∗ XOn d L q X Finset.univ ∗ semVal (thr d L, .dma sm) 0 ∗ Owing (F := F) d L O W)
            -∗ wp frame (wpE (defs₀ (F := F)) 𝒱₀ (thr d L) none) Set.univ (kk ⟨⟩) Q)
        -∗ wp frame (wpE (defs₀ (F := F)) 𝒱₀ (thr d L) none) Set.univ (.op (.waitDma2 sm srcw dstw h1 h2) kk) Q) := by
  unfold FIn Owing
  iintro ⟨Hf, Hr, ⟨%W', %hW', HO⟩, Hmw⟩ Hk
  iapply (Transfers.wp_waitLocalO countersEmb 𝒱₀ (thr d L) none (none : HIx 1) hN) $$ [Hf HO Hmw]
  · isplitl [Hf]; · iexact Hf
    isplitl [HO]; · iexact HO
    iapply (Transfers.MayWaits.elim (SemLoc.dma sm)) $$ Hmw
  iintro ⟨⟨Hi, Hx⟩, Hs, HO⟩
  iapply Hk
  isplitl [Hi]; · iexact Hi
  isplitl [Hx Hr]
  · iapply (pointsTo_split_subset (q := q) (f := X) (S := Finset.univ) (Finset.subset_univ (xRows n))).2 $$ [Hx Hr]
    isplitl [Hx] <;> iassumption
  isplitl [Hs]; · iexact Hs
  iexists _; isplitr
  swap; · iexact HO
  ipureintro; intro p hp
  rcases Finset.mem_insert.mp hp with hp | hp
  · exact .inr (hp ▸ rfl)
  · exact hW' p hp

theorem start_out {Q} {g : IC F} (hg : Holds b n X g) {R₀ : RC F} {off : Fin 2 → ℕ} (hoff : off = ![32 * n, 0]) {inb} {offb : Fin 3 → ℕ} (hoffb : offb = ![b, 0, 0]) {inbb} {h1 h2 h3} :
    iprop(DSlot d L b (dbl g) 64 0 ∗ ROn d L (oRows n) R₀ ∗ semVal (thr d L, .dma sm) 0)
      ⊢ iprop((FOut d L sm b n X -∗ wp frame (wpE (defs₀ (F := F)) 𝒱₀ (thr d L) none) Set.univ (kk ⟨⟩) Q)
        -∗ wp frame (wpE (defs₀ (F := F)) 𝒱₀ (thr d L) none) Set.univ
            (.op (.enqueueDma (oSl offb inbb) (.here (rSl off inb)) (.dma sm) h1 h2 h3) kk) Q) := by
  unfold DSlot FOut
  iintro ⟨⟨%f, %hf, Ho⟩, Hr, Hs⟩ Hk
  have ho : (oSl offb inbb).view.set = oSlot b := oSl_set hoffb
  have hr : (rSl off inb).view.set ⊆ oRows n := by rw [rSl_set hoff]
  iapply (Transfers.wp_dmaLocal countersEmb 𝒱₀ (thr d L) none (src := oSl offb inbb) (via := .same) (dst := rSl off inb) (sm := .dma sm)
    (q := fullShare) (fs := f) (Sd := oRows n) (fd := R₀) (none : HIx 1) Nout rfl (View.dmaCredit_pos _ (by decide)) hr) $$ [Ho Hr Hs]
  · isplitl [Ho]; · rw [ho]; iexact Ho
    isplitl [Hr]; · iexact Hr
    iexact Hs
  iintro Hf
  iapply Hk
  iapply (Transfers.Flight_mono countersEmb (thr d L) (D' := iprop(ROn d L (oRows n) (want X) ∗ ZSlot d L b 64 0)) ?_) $$ Hf
  rw [ho]
  unfold ZSlot
  iintro ⟨Hr, Ho⟩
  isplitl [Hr]
  · iapply (Entails.of_eq (pointsTo_congr (want_write hoff hoffb (inb := inb) (inbb := inbb) hg hf.1 hf.2 R₀))) $$ Hr
  iexists f; isplitr
  · ipureintro; exact hf.1
  iexact Ho

theorem wait_out {Q} {O : CellTallies nD τ sig (HIx 1)} {W : Waits sig (HIx 1)}
    {sp sp' : Space} {s s' : Shape} {e e' : EltTy} {srcw : Memref sig (thr d L).2.kind sp' s' e'} {dstw : Memref sig .scVector sp s e}
    {h1 : srcw.view.WordExact} {h2 : dstw.view.WordExact} (hN : dstw.view.dmaCredit = Nout) :
    iprop(FOut d L sm b n X ∗ Owing (F := F) d L O W ∗ Transfers.MayWaits (thr d L) (none : HIx 1) O)
      ⊢ iprop(((ROn d L (oRows n) (want X) ∗ ZSlot d L b 64 0 ∗ semVal (thr d L, .dma sm) 0 ∗ Owing (F := F) d L O W)
            -∗ wp frame (wpE (defs₀ (F := F)) 𝒱₀ (thr d L) none) Set.univ (kk ⟨⟩) Q)
        -∗ wp frame (wpE (defs₀ (F := F)) 𝒱₀ (thr d L) none) Set.univ (.op (.waitDma2 sm srcw dstw h1 h2) kk) Q) := by
  unfold FOut Owing
  iintro ⟨Hf, ⟨%W', %hW', HO⟩, Hmw⟩ Hk
  iapply (Transfers.wp_waitLocalO countersEmb 𝒱₀ (thr d L) none (none : HIx 1) hN) $$ [Hf HO Hmw]
  · isplitl [Hf]; · iexact Hf
    isplitl [HO]; · iexact HO
    iapply (Transfers.MayWaits.elim (SemLoc.dma sm)) $$ Hmw
  iintro ⟨⟨Hr, Ho⟩, Hs, HO⟩
  iapply Hk
  isplitl [Hr]; · iexact Hr
  isplitl [Ho]; · iexact Ho
  isplitl [Hs]; · iexact Hs
  iexists _; isplitr
  swap; · iexact HO
  ipureintro; intro p hp
  rcases Finset.mem_insert.mp hp with hp | hp
  · exact .inr (hp ▸ rfl)
  · exact hW' p hp

end Steps

end Cert.KernelIdeal.Tiles

end
-- ==== Proof.Ideal.Trip.lean ====
/-
  One trip of a tile's outer loop: of each slot, the wait for its copy in, the wait for its copy out of the trip before, the
  rows doubled, the copy out started, and, before the last trip, the next copy in.
-/
module

public import proofs.«01_k».proof.Proof.Ideal.Copies

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The conditions -/

theorem trips_outer : k0_t2_loop.trips = 8 := by decide +kernel
theorem trips_t1 : k0_t1_loop.trips = 64 := by decide +kernel
theorem trips_t3 : k0_t3_loop.trips = 64 := by decide +kernel
theorem trips_t4 : k0_t4_loop.trips = 64 := by decide +kernel

/-- The trips after the first wait for the copy out of the trip before; -/
theorem later_iff (t : Fin k0_t2_loop.trips) :
    Scalar.cmpi .ne (Scalar.extui (Scalar.cmpi .sgt (Scf.iv 0#32 1#32 t) 0#32)) 0#32 = 1#1 ↔ 0 < t.val := by
  revert t; decide +kernel

/-- and those before the last start the copy in of the next trip. -/
theorem more0_iff (t : Fin k0_t2_loop.trips) : k0_cond2 t = 1#1 ↔ t.val + 1 < 8 := by revert t; decide +kernel
theorem more1_iff (t : Fin k0_t2_loop.trips) : k0_cond4 t = 1#1 ↔ t.val + 1 < 8 := by revert t; decide +kernel

/-! ## What a tile holds at a trip -/

/-- The trips from `i` on; the trips whose copy out is waited for before trip `i` waits. -/
def fromJ (i : ℕ) : Finset (Fin 8) := Finset.univ.filter fun j => i ≤ j.val
def belowJ (i : ℕ) : Finset (Fin 8) := Finset.univ.filter fun j => j.val + 1 < i

theorem fromJ_succ (j : Fin 8) : fromJ j.val = insert j (fromJ (j.val + 1)) ∧ j ∉ fromJ (j.val + 1) := by revert j; decide
theorem belowJ_succ (j : Fin 8) : belowJ (j.val + 2) = insert j (belowJ (j.val + 1)) ∧ j ∉ belowJ (j.val + 1) := by revert j; decide
theorem belowJ_one : belowJ 1 = belowJ 0 := by decide

variable [FloatOps F] (d : Dev nD) (L : grid0.Coords) (X : XC F) (R₀ : RC F)

/-- The rows of the result that the trips from `i` on will write in slot `b`, as the call found them. -/
def Todo (b i : ℕ) : sProp 𝕄 := bigSep (fromJ i) fun j => ROn d L (oRows (ck L (2 * j.val + b))) R₀
/-- Those that are written and waited for. -/
def Done (b i : ℕ) : sProp 𝕄 := bigSep (belowJ i) fun j => ROn d L (oRows (ck L (2 * j.val + b))) (want X)

theorem Todo.take {b : ℕ} (j : Fin 8) : Todo d L R₀ b j.val ⊢ iprop(ROn d L (oRows (ck L (2 * j.val + b))) R₀ ∗ Todo d L R₀ b (j.val + 1)) := by
  unfold Todo
  rw [(fromJ_succ j).1, SparseCore.bigSep_insert' (fromJ_succ j).2]

theorem Done.put {b : ℕ} (j : Fin 8) : iprop(ROn d L (oRows (ck L (2 * j.val + b))) (want X) ∗ Done d L X b (j.val + 1)) ⊢ Done d L X b (j.val + 2) := by
  unfold Done
  rw [(belowJ_succ j).1, SparseCore.bigSep_insert' (belowJ_succ j).2]

/-- The copy in of slot `b` at trip `i`: under way, or, when no trip is left, the slot at rest. -/
def SIn (sm : DmaSem sig) (q : PosShare TreeShare) (b i : ℕ) : sProp 𝕄 :=
  if i < 8 then iprop(FIn d L sm b (ck L (2 * i + b)) q X ∗ XOn d L q X (Finset.univ \ xRows (ck L (2 * i + b))))
  else iprop(ISlot (F := F) d L b ∗ XOn d L q X Finset.univ ∗ semVal (thr d L, .dma sm) 0)
/-- The copy out of slot `b` at trip `i`: that of the trip before under way, or, at the first trip, the slot at rest. -/
def SOut (sm : DmaSem sig) (b i : ℕ) : sProp 𝕄 :=
  if i = 0 then iprop(ZSlot (F := F) d L b 64 0 ∗ semVal (thr d L, .dma sm) 0)
  else FOut d L sm b (ck L (2 * (i - 1) + b)) X

section Steps

variable {b i : ℕ} {sm : DmaSem sig} {α : Type} {kk : Prog (TpuEff nD τ sig (Elt F) Λ₀ (thr d L).2) α}
  {O : CellTallies nD τ sig (HIx 1)} {W : Waits sig (HIx 1)}

/-- Past the conditional wait the slot of the output scratch is at rest. -/
theorem ready_out {Q} (hi : i < 8) {c : Prop} [Decidable c] (hc : c ↔ 0 < i)
    {sp sp' : Space} {s s' : Shape} {e e' : EltTy} {srcw : Memref sig (thr d L).2.kind sp' s' e'} {dstw : Memref sig .scVector sp s e}
    {h1 : srcw.view.WordExact} {h2 : dstw.view.WordExact} (hN : dstw.view.dmaCredit = Nout) :
    iprop(SOut d L X sm b i ∗ Done d L X b i ∗ Owing (F := F) d L O W ∗ Transfers.MayWaits (thr d L) (none : HIx 1) O)
      ⊢ iprop(((ZSlot d L b 64 0 ∗ semVal (thr d L, .dma sm) 0 ∗ Done d L X b (i + 1) ∗ Owing (F := F) d L O W)
            -∗ wp frame (wpE (defs₀ (F := F)) 𝒱₀ (thr d L) none) Set.univ kk Q)
        -∗ wp frame (wpE (defs₀ (F := F)) 𝒱₀ (thr d L) none) Set.univ
            (if _h : c then .op (.waitDma2 sm srcw dstw h1 h2) fun _ => kk else kk) Q) := by
  by_cases h : c
  · rw [dif_pos h]
    obtain ⟨j, rfl⟩ : ∃ j, i = j + 1 := ⟨i - 1, by have := hc.mp h; omega⟩
    unfold SOut
    rw [if_neg (by omega), show j + 1 - 1 = j from rfl]
    iintro ⟨Hf, Hd, HO, Hmw⟩ Hk
    iapply (wait_out d L hN (kk := fun _ => kk)) $$ [Hf HO Hmw]
    · isplitl [Hf]; · iexact Hf
      isplitl [HO] <;> iassumption
    iintro ⟨Hr, Ho, Hs, HO⟩
    iapply Hk
    isplitl [Ho]; · iexact Ho
    isplitl [Hs]; · iexact Hs
    isplitl [Hr Hd]
    · iapply (Done.put d L X (⟨j, by omega⟩ : Fin 8)) $$ [Hr Hd]
      isplitl [Hr] <;> iassumption
    iexact HO
  · rw [dif_neg h]
    obtain rfl : i = 0 := by have := mt hc.mpr h; omega
    unfold SOut Done
    rw [if_pos rfl, belowJ_one]
    iintro ⟨⟨Ho, Hs⟩, Hd, HO, -⟩ Hk
    iapply Hk
    isplitl [Ho]; · iexact Ho
    isplitl [Hs]; · iexact Hs
    isplitl [Hd]; · iexact Hd
    iexact HO

/-- Past the conditional start the next trip's copy in is under way, if there is a next trip. -/
theorem ready_in {Q} {q : PosShare TreeShare} {c : Prop} [Decidable c] (hc : c ↔ i + 1 < 8)
    {off : Fin 2 → ℕ} (hoff : off = ![16 * ck L (2 * (i + 1) + b), 0]) {inb : c → ∀ a, off a + S16x1024.size a ≤ S8192x1024.size a}
    {offb : Fin 3 → ℕ} (hoffb : offb = ![b, 0, 0]) {inbb} :
    iprop(ISlot (F := F) d L b ∗ XOn d L q X Finset.univ ∗ semVal (thr d L, .dma sm) 0)
      ⊢ iprop((SIn d L X sm q b (i + 1) -∗ wp frame (wpE (defs₀ (F := F)) 𝒱₀ (thr d L) none) Set.univ kk Q)
        -∗ wp frame (wpE (defs₀ (F := F)) 𝒱₀ (thr d L) none) Set.univ
            (if h : c then .op (.enqueueDma (xSl off (inb h)) (.here (iSl offb inbb)) (.dma sm) (View.wordExact_bits rfl) ((View.wordExact_bits rfl).reshape _ _) ⟨Or.inl rfl, trivial⟩) fun _ => kk else kk) Q) := by
  unfold SIn
  by_cases h : c
  · rw [dif_pos h, if_pos (hc.mp h)]
    exact start_in d L hoff hoffb (kk := fun _ => kk)
  · rw [dif_neg h, if_neg (mt hc.mpr h)]
    iintro H Hk
    iapply Hk
    iexact H

end Steps

/-- Half a trip of slot `b`: at its start, -/
def Cur (smI smO : DmaSem sig) (q : PosShare TreeShare) (b i : ℕ) : sProp 𝕄 :=
  iprop(SIn d L X smI q b i ∗ SOut d L X smO b i ∗ Todo d L R₀ b i ∗ Done d L X b i)
/-- and past the copy out's start. -/
def Mid (smI smO : DmaSem sig) (q : PosShare TreeShare) (b i : ℕ) : sProp 𝕄 :=
  iprop((ISlot (F := F) d L b ∗ XOn d L q X Finset.univ ∗ semVal (thr d L, .dma smI) 0)
    ∗ SOut d L X smO b (i + 1) ∗ Todo d L R₀ b (i + 1) ∗ Done d L X b (i + 1))

theorem off66_0 (t : Fin k0_t2_loop.trips) : k0_off66 L t 0#32 = ![32 * ck L (2 * t.val + 0), 0] :=
  (k0_off66_eq L t 0).trans (by
    unfold ck; congr 1
    show 1024 * (L 1).val + 512 * (L 0).val + 64 * t.val + 32 * 0 = 32 * (16 * (2 * (L 1).val + (L 0).val) + (2 * t.val + 0))
    omega)

theorem off66_1 (t : Fin k0_t2_loop.trips) : k0_off66 L t 1#32 = ![32 * ck L (2 * t.val + 1), 0] :=
  (k0_off66_eq L t 1).trans (by
    unfold ck; congr 1
    show 1024 * (L 1).val + 512 * (L 0).val + 64 * t.val + 32 * 1 = 32 * (16 * (2 * (L 1).val + (L 0).val) + (2 * t.val + 1))
    omega)

theorem off67 (t : Fin k0_t2_loop.trips) : k0_off67 L t = ![16 * ck L (2 * (t.val + 1) + 0), 0] :=
  (k0_off67_eq L t).trans (by unfold ck; congr 1; omega)

theorem off100 (t : Fin k0_t2_loop.trips) : k0_off100 L t = ![16 * ck L (2 * (t.val + 1) + 1), 0] :=
  (k0_off100_eq L t).trans (by unfold ck; congr 1; omega)

variable {O : CellTallies nD τ sig (HIx 1)} {W : Waits sig (HIx 1)} {h2 : (xV).IsWhole} {h3 : (oV).IsWhole} {h4 : (iB).IsWhole} {h5 : (oB).IsWhole}

/-- The first slot's half of a trip. -/
theorem half0 (v2 : BitVec 32) (q : PosShare TreeShare) (t : Fin k0_t2_loop.trips) :
    iprop(Cur d L X R₀ cc0_scratch2.sem cc0_scratch4.sem q 0 t.val ∗ Owing (F := F) d L O W ∗ Transfers.MayWaits (thr d L) (none : HIx 1) O)
      ⊢ wp frame (wpE (defs₀ (F := F)) 𝒱₀ (thr d L) none) Set.univ
          (k0_part13 (F := F) L xV h2 oV h3 iB h4 oB h5 cc0_scratch2 cc0_scratch3 cc0_scratch4 cc0_scratch5 v2 0#32 1#32 t)
          fun r => iprop(⌜r.1 = Scf.iv 0#32 1#32 t⌝ ∗ Mid d L X R₀ cc0_scratch2.sem cc0_scratch4.sem q 0 t.val ∗ Owing (F := F) d L O W) := by
  have ht : t.val < 8 := lt_of_lt_of_eq t.isLt trips_outer
  rw [k0_part13_eq_skeleton]
  unfold k0_part13_skel Cur Mid
  simp only [Prog.lift, Prog.bind_op, Prog.bind_ret, Prog.pure_eq_ret, Prog.bind_assoc]
  rw [show SIn d L X cc0_scratch2.sem q 0 t.val = iprop(FIn d L cc0_scratch2.sem 0 (ck L (2 * t.val + 0)) q X
    ∗ XOn d L q X (Finset.univ \ xRows (ck L (2 * t.val + 0)))) from if_pos ht]
  iintro ⟨⟨⟨Hf, Hx⟩, Ho, Ht, Hd⟩, HO, #Hmw⟩
  iapply (wait_in d L (hN := rfl)) $$ [Hf Hx HO]
  · isplitl [Hf]; · iexact Hf
    isplitl [Hx]; · iexact Hx
    isplitl [HO]; · iexact HO
    iexact Hmw
  iintro ⟨Hi, Hx, Hs, HO⟩
  iapply (ready_out d L X ht (later_iff t) (hN := rfl)) $$ [Ho Hd HO]
  · isplitl [Ho]; · iexact Ho
    isplitl [Hd]; · iexact Hd
    isplitl [HO]; · iexact HO
    iexact Hmw
  iintro ⟨Hz, Hso, Hd, HO⟩
  unfold InSlot ZSlot
  icases Hi with ⟨%g, %hg, Hi⟩
  icases Hz with ⟨%f, %hf, Hz⟩
  sl_for (fun k (_ : BitVec 32) => Doubling d L 0 g k 0) $$ [Hi Hz]
  case region =>
    intro k acc
    exact double_trip0 d L v2 t k acc g
  · isplitl [Hi]; · iexact Hi
    unfold DSlot
    iexists f; isplitr
    · ipureintro; exact ⟨hf, Fill.zero _ _ _ _⟩
    iexact Hz
  iintro %acc ⟨Hi, Hz⟩
  ihave Ht := (Todo.take d L R₀ (b := 0) (⟨t.val, ht⟩ : Fin 8)) $$ Ht
  icases Ht with ⟨Hr, Ht⟩
  iapply (start_out d L hg (off66_0 L t) rfl) $$ [Hz Hr Hso]
  · isplitl [Hz]; · rw [← trips_t3]; iexact Hz
    isplitl [Hr]; · iexact Hr
    iexact Hso
  iintro Hf
  sl_step
  isplitr; · ipureintro; rfl
  isplitr [HO]
  · isplitl [Hi Hx Hs]
    · isplitl [Hi]; · unfold ISlot; iexists g; iexact Hi
      isplitl [Hx] <;> iassumption
    isplitl [Hf]
    · unfold SOut; rw [if_neg (Nat.succ_ne_zero _)]; iexact Hf
    isplitl [Ht] <;> iassumption
  iexact HO

/-- The first slot's next copy in, and the second slot's half of a trip. -/
theorem half1 (v2 v35 : BitVec 32) (q₀ q₁ : PosShare TreeShare) (t : Fin k0_t2_loop.trips) :
    iprop(Mid d L X R₀ cc0_scratch2.sem cc0_scratch4.sem q₀ 0 t.val ∗ Cur d L X R₀ cc0_scratch3.sem cc0_scratch5.sem q₁ 1 t.val
        ∗ Owing (F := F) d L O W ∗ Transfers.MayWaits (thr d L) (none : HIx 1) O)
      ⊢ wp frame (wpE (defs₀ (F := F)) 𝒱₀ (thr d L) none) Set.univ
          (k0_part14 (F := F) L xV h2 oV h3 iB h4 oB h5 cc0_scratch2 cc0_scratch3 cc0_scratch4 cc0_scratch5 v2 t (Scf.iv 0#32 1#32 t) v35)
          fun _ => iprop(Cur d L X R₀ cc0_scratch2.sem cc0_scratch4.sem q₀ 0 (t.val + 1)
            ∗ Mid d L X R₀ cc0_scratch3.sem cc0_scratch5.sem q₁ 1 t.val ∗ Owing (F := F) d L O W) := by
  have ht : t.val < 8 := lt_of_lt_of_eq t.isLt trips_outer
  rw [k0_part14_eq_skeleton]
  unfold k0_part14_skel Cur Mid
  simp only [Prog.lift, Prog.bind_op, Prog.bind_ret, Prog.pure_eq_ret, Prog.bind_assoc]
  rw [show SIn d L X cc0_scratch3.sem q₁ 1 t.val = iprop(FIn d L cc0_scratch3.sem 1 (ck L (2 * t.val + 1)) q₁ X
    ∗ XOn d L q₁ X (Finset.univ \ xRows (ck L (2 * t.val + 1)))) from if_pos ht]
  iintro ⟨⟨Hin0, Hrest0⟩, ⟨⟨Hf, Hx⟩, Ho, Ht, Hd⟩, HO, #Hmw⟩
  iapply (ready_in d L X (more0_iff t) (off67 L t) rfl) $$ [Hin0]; · iexact Hin0
  iintro Hin0
  iapply (wait_in d L (dstw := iSl ![1, 0, 0] inb_S2x16x1024_S1x16x1024_1_0_0) rfl) $$ [Hf Hx HO]
  · isplitl [Hf]; · iexact Hf
    isplitl [Hx]; · iexact Hx
    isplitl [HO]; · iexact HO
    iexact Hmw
  iintro ⟨Hi, Hx, Hs, HO⟩
  iapply (ready_out d L X ht (later_iff t) (hN := rfl)) $$ [Ho Hd HO]
  · isplitl [Ho]; · iexact Ho
    isplitl [Hd]; · iexact Hd
    isplitl [HO]; · iexact HO
    iexact Hmw
  iintro ⟨Hz, Hso, Hd, HO⟩
  unfold InSlot ZSlot
  icases Hi with ⟨%g, %hg, Hi⟩
  icases Hz with ⟨%f, %hf, Hz⟩
  sl_for (fun k (_ : BitVec 32) => Doubling d L 1 g k 0) $$ [Hi Hz]
  case region =>
    intro k acc
    exact double_trip1 d L v2 _ _ t k acc g
  · isplitl [Hi]; · iexact Hi
    unfold DSlot
    iexists f; isplitr
    · ipureintro; exact ⟨hf, Fill.zero _ _ _ _⟩
    iexact Hz
  iintro %acc ⟨Hi, Hz⟩
  ihave Ht := (Todo.take d L R₀ (b := 1) (⟨t.val, ht⟩ : Fin 8)) $$ Ht
  icases Ht with ⟨Hr, Ht⟩
  iapply (start_out d L hg (off66_1 L t) rfl) $$ [Hz Hr Hso]
  · isplitl [Hz]; · rw [← trips_t4]; iexact Hz
    isplitl [Hr]; · iexact Hr
    iexact Hso
  iintro Hf
  sl_step
  isplitl [Hin0 Hrest0]
  · isplitl [Hin0] <;> iassumption
  isplitr [HO]
  · isplitl [Hi Hx Hs]
    · isplitl [Hi]; · unfold ISlot; iexists g; iexact Hi
      isplitl [Hx] <;> iassumption
    isplitl [Hf]
    · unfold SOut; rw [if_neg (Nat.succ_ne_zero _)]; iexact Hf
    isplitl [Ht] <;> iassumption
  iexact HO

/-- One trip. -/
theorem trip (v2 : BitVec 32) (q₀ q₁ : PosShare TreeShare) (t : Fin k0_t2_loop.trips) (acc : BitVec 32) :
    iprop(Cur d L X R₀ cc0_scratch2.sem cc0_scratch4.sem q₀ 0 t.val ∗ Cur d L X R₀ cc0_scratch3.sem cc0_scratch5.sem q₁ 1 t.val
        ∗ Owing (F := F) d L O W ∗ Transfers.MayWaits (thr d L) (none : HIx 1) O)
      ⊢ wp frame (wpE (defs₀ (F := F)) 𝒱₀ (thr d L) none) Set.univ
          (k0_t2_body (F := F) L xV h2 oV h3 iB h4 oB h5 cc0_scratch2 cc0_scratch3 cc0_scratch4 cc0_scratch5 v2 t acc)
          fun _ => iprop(Cur d L X R₀ cc0_scratch2.sem cc0_scratch4.sem q₀ 0 (t.val + 1)
            ∗ Cur d L X R₀ cc0_scratch3.sem cc0_scratch5.sem q₁ 1 (t.val + 1)
            ∗ Owing (F := F) d L O W ∗ Transfers.MayWaits (thr d L) (none : HIx 1) O) := by
  unfold k0_t2_body
  rw [wp_bind]
  iintro ⟨H0, H1, HO, #Hmw⟩
  iapply (wp_wand frame _ _) $$ [H0 HO]
  · iapply (half0 d L X R₀ (h2 := h2) (h3 := h3) (h4 := h4) (h5 := h5) v2 q₀ t (O := O) (W := W)) $$ [H0 HO]
    isplitl [H0]; · iexact H0
    isplitl [HO]; · iexact HO
    iexact Hmw
  iintro %r ⟨%hr, H0, HO⟩
  obtain ⟨arg10, v35⟩ := r
  obtain rfl : arg10 = Scf.iv 0#32 1#32 t := hr
  rw [wp_bind]
  iapply (wp_wand frame _ _) $$ [H0 H1 HO]
  · iapply (half1 d L X R₀ (h2 := h2) (h3 := h3) (h4 := h4) (h5 := h5) v2 v35 q₀ q₁ t (O := O) (W := W)) $$ [H0 H1 HO]
    isplitl [H0]; · iexact H0
    isplitl [H1]; · iexact H1
    isplitl [HO]; · iexact HO
    iexact Hmw
  iintro %r ⟨H0, H1, HO⟩
  simp only [Prog.lift, Prog.bind_op, Prog.bind_ret, Prog.pure_eq_ret, Prog.bind_assoc]
  unfold Mid
  icases H1 with ⟨Hin, Hrest⟩
  iapply (ready_in d L X (more1_iff t) (off100 L t) rfl) $$ [Hin]; · iexact Hin
  iintro Hin
  sl_step
  isplitl [H0]; · iexact H0
  isplitl [Hin Hrest]
  · unfold Cur; isplitl [Hin] <;> iassumption
  isplitl [HO]; · iexact HO
  iexact Hmw

end Cert.KernelIdeal.Tiles

end
-- ==== Proof.Ideal.Tile.lean ====
/-
  The whole task of a tile: the two first copies in, the zeros, the eight trips, the two last waits.
-/
module

public import proofs.«01_k».proof.Proof.Ideal.Trip

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords)

/-! ## The tile's own buffers and semaphores -/

abbrev cell2 : GSem nD τ sig := (thr d L, .dma cc0_scratch2.sem)
abbrev cell3 : GSem nD τ sig := (thr d L, .dma cc0_scratch3.sem)
abbrev cell4 : GSem nD τ sig := (thr d L, .dma cc0_scratch4.sem)
abbrev cell5 : GSem nD τ sig := (thr d L, .dma cc0_scratch5.sem)

theorem ownSems0_V :
    (ownSems0 (thr d L) : sProp 𝕄)
      = iprop(semVal (cell2 d L) 0 ∗ semVal (cell3 d L) 0 ∗ semVal (cell4 d L) 0 ∗ semVal (cell5 d L) 0
          ∗ bigSep (((((ownCells (thr d L)).erase (cell2 d L)).erase (cell3 d L)).erase (cell4 d L)).erase (cell5 d L)) fun g => semVal g 0) := by
  have m2 : cell2 d L ∈ ownCells (thr d L) := mem_ownCells.mpr ⟨rfl, by show (SemLoc.dma cc0_scratch2.sem : SemLoc sig).isScoped .scVector = true; decide⟩
  have m3 : cell3 d L ∈ ownCells (thr d L) := mem_ownCells.mpr ⟨rfl, by show (SemLoc.dma cc0_scratch3.sem : SemLoc sig).isScoped .scVector = true; decide⟩
  have m4 : cell4 d L ∈ ownCells (thr d L) := mem_ownCells.mpr ⟨rfl, by show (SemLoc.dma cc0_scratch4.sem : SemLoc sig).isScoped .scVector = true; decide⟩
  have m5 : cell5 d L ∈ ownCells (thr d L) := mem_ownCells.mpr ⟨rfl, by show (SemLoc.dma cc0_scratch5.sem : SemLoc sig).isScoped .scVector = true; decide⟩
  have n32 : cell3 d L ≠ cell2 d L := by simp [cell2, cell3]; decide
  have n42 : cell4 d L ≠ cell2 d L := by simp [cell2, cell4]; decide
  have n43 : cell4 d L ≠ cell3 d L := by simp [cell3, cell4]; decide
  have n52 : cell5 d L ≠ cell2 d L := by simp [cell2, cell5]; decide
  have n53 : cell5 d L ≠ cell3 d L := by simp [cell3, cell5]; decide
  have n54 : cell5 d L ≠ cell4 d L := by simp [cell4, cell5]; decide
  unfold SparseCore.Cfg.ownSems0
  rw [SparseCore.bigSep_erase' m2, SparseCore.bigSep_erase' (Finset.mem_erase.mpr ⟨n32, m3⟩),
    SparseCore.bigSep_erase' (Finset.mem_erase.mpr ⟨n43, Finset.mem_erase.mpr ⟨n42, m4⟩⟩),
    SparseCore.bigSep_erase' (Finset.mem_erase.mpr ⟨n54, Finset.mem_erase.mpr ⟨n53, Finset.mem_erase.mpr ⟨n52, m5⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## A scratch buffer is its two slots -/

theorem iSlot_rest : Finset.univ \ iSlot 0 = iSlot 1 := by
  ext z
  have := (z 0).isLt
  change (z 0).val < 2 at this
  simp only [Finset.mem_sdiff, Finset.mem_univ, true_and, mem_iSlot]
  omega

theorem oSlot_rest : Finset.univ \ oSlot 0 = oSlot 1 := by
  ext z
  have := (z 0).isLt
  change (z 0).val < 2 at this
  simp only [Finset.mem_sdiff, Finset.mem_univ, true_and, mem_oSlot]
  omega

variable [FloatOps F]

theorem islots_split (f : IC F) :
    ((thr d L).loc cc0_scratch0 ↦{fullShare} f : sProp 𝕄) ⊢ iprop(ISlot (F := F) d L 0 ∗ ISlot (F := F) d L 1) := by
  unfold ISlot
  iintro H
  ihave H := (pointsTo_split_subset (q := fullShare) (f := f) (S := Finset.univ) (Finset.subset_univ (iSlot 0))).1 $$ H
  rw [iSlot_rest]
  icases H with ⟨H0, H1⟩
  isplitl [H0]
  · iexists f; iexact H0
  · iexists f; iexact H1

theorem islots_join :
    iprop(ISlot (F := F) d L 0 ∗ ISlot (F := F) d L 1) ⊢ iprop(∃ f, ((thr d L).loc cc0_scratch0 ↦{fullShare} f : sProp 𝕄)) := by
  unfold ISlot
  iintro ⟨⟨%f, H0⟩, %g, H1⟩
  have e0 : ((thr d L).loc cc0_scratch0 ↦[iSlot 0]{fullShare} f : sProp 𝕄) = (thr d L).loc cc0_scratch0 ↦[iSlot 0]{fullShare} (fun z => if (z 0).val = 0 then f z else g z) := pointsTo_congr
    fun z hz => (if_pos (mem_iSlot.mp hz)).symm
  have e1 : ((thr d L).loc cc0_scratch0 ↦[iSlot 1]{fullShare} g : sProp 𝕄) = (thr d L).loc cc0_scratch0 ↦[iSlot 1]{fullShare} (fun z => if (z 0).val = 0 then f z else g z) := pointsTo_congr
    fun z hz => (if_neg (by have := mem_iSlot.mp hz; omega)).symm
  ihave H0 := (Entails.of_eq e0) $$ H0
  ihave H1 := (Entails.of_eq e1) $$ H1
  iexists (fun z => if (z 0).val = 0 then f z else g z)
  iapply (pointsTo_split_subset (q := fullShare) (S := Finset.univ) (Finset.subset_univ (iSlot 0))).2 $$ [H0 H1]
  rw [iSlot_rest]
  isplitl [H0] <;> iassumption

theorem oslots_split (f : OC F) :
    ((thr d L).loc cc0_scratch1 ↦{fullShare} f : sProp 𝕄) ⊢ iprop(ZSlot (F := F) d L 0 0 0 ∗ ZSlot (F := F) d L 1 0 0) := by
  unfold ZSlot
  iintro H
  ihave H := (pointsTo_split_subset (q := fullShare) (f := f) (S := Finset.univ) (Finset.subset_univ (oSlot 0))).1 $$ H
  rw [oSlot_rest]
  icases H with ⟨H0, H1⟩
  isplitl [H0]
  · iexists f; isplitr
    · ipureintro; exact Fill.zero _ _ _ _
    iexact H0
  · iexists f; isplitr
    · ipureintro; exact Fill.zero _ _ _ _
    iexact H1

theorem oslots_join :
    iprop(ZSlot (F := F) d L 0 64 0 ∗ ZSlot (F := F) d L 1 64 0) ⊢ iprop(∃ f, ((thr d L).loc cc0_scratch1 ↦{fullShare} f : sProp 𝕄)) := by
  unfold ZSlot
  iintro ⟨⟨%f, -, H0⟩, %g, -, H1⟩
  have e0 : ((thr d L).loc cc0_scratch1 ↦[oSlot 0]{fullShare} f : sProp 𝕄) = (thr d L).loc cc0_scratch1 ↦[oSlot 0]{fullShare} (fun z => if (z 0).val = 0 then f z else g z) := pointsTo_congr
    fun z hz => (if_pos (mem_oSlot.mp hz)).symm
  have e1 : ((thr d L).loc cc0_scratch1 ↦[oSlot 1]{fullShare} g : sProp 𝕄) = (thr d L).loc cc0_scratch1 ↦[oSlot 1]{fullShare} (fun z => if (z 0).val = 0 then f z else g z) := pointsTo_congr
    fun z hz => (if_neg (by have := mem_oSlot.mp hz; omega)).symm
  ihave H0 := (Entails.of_eq e0) $$ H0
  ihave H1 := (Entails.of_eq e1) $$ H1
  iexists (fun z => if (z 0).val = 0 then f z else g z)
  iapply (pointsTo_split_subset (q := fullShare) (S := Finset.univ) (Finset.subset_univ (oSlot 0))).2 $$ [H0 H1]
  rw [oSlot_rest]
  isplitl [H0] <;> iassumption

/-! ## The task -/

theorem off1_0 : k0_off1 L 0#32 = ![16 * ck L (2 * 0 + 0), 0] :=
  (k0_off1_eq L 0).trans (by
    unfold ck; congr 1
    show 512 * (L 1).val + 256 * (L 0).val + 16 * 0 = _
    omega)

theorem off1_1 : k0_off1 L 16#32 = ![16 * ck L (2 * 0 + 1), 0] :=
  (k0_off1_eq L 1).trans (by
    unfold ck; congr 1
    show 512 * (L 1).val + 256 * (L 0).val + 16 * 1 = _
    omega)

variable (X : XC F) (R₀ : RC F)

/-- What the task takes: a read share of the input, its rows of the result; -/
def taskIn (q : PosShare TreeShare) : sProp 𝕄 := iprop(XOn d L q X Finset.univ ∗ Todo d L R₀ 0 0 ∗ Todo d L R₀ 1 0)
/-- and what it brings: its rows at the wanted values. -/
def taskOut : sProp 𝕄 := iprop(Done d L X 0 9 ∗ Done d L X 1 9)

set_option maxHeartbeats 1000000 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ taskIn d L X R₀ q
        ∗ scopedBufs (thr d L) ∗ scopedSems0 (thr d L) ∗ owes (thr d L) O W)
      ⊢ wp frame (wpE (defs₀ (F := F)) 𝒱₀ (thr d L) none) Set.univ
          (cc0__sc_restore L xV (Memref.isWhole_whole _) oV (Memref.isWhole_whole _) iB (Memref.isWhole_whole _) oB (Memref.isWhole_whole _)
            cc0_scratch2 cc0_scratch3 cc0_scratch4 cc0_scratch5)
          fun _ => iprop(taskOut d L X
            ∗ scopedBufs (thr d L) ∗ scopedSems0 (thr d L)
            ∗ ∃ W', ⌜∀ p ∈ W', p ∈ W ∨ p.2 = none⌝ ∗ owes (thr d L) O W') := by
  rw [cc0__sc_restore_eq_skeleton]
  unfold cc0__sc_restore_skel
  rw [k0_part15_eq_skeleton]
  unfold k0_part15_skel taskIn taskOut
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, -, ⟨Hx, Ht0, Ht1⟩, ⟨⟨%fi, Hi⟩, ⟨%fo, Ho⟩, Hbufs⟩, ⟨Hs2, Hs3, Hs4, Hs5, Hsems⟩, HO⟩
  ihave #Hmw := (show levAts (K (F := F)).L (K (F := F)).lev ⊢ Transfers.MayWaits (thr d L) (none : HIx 1) O from
    (K (F := F)).mayWaits_none (thr := thr d L) hO) $$ Hlv
  ihave Hx := (pointsTo_share (PosShare.mem_left_op_right q)).1 $$ Hx
  icases Hx with ⟨Hx0, Hx1⟩
  ihave Hi := (islots_split d L fi) $$ Hi
  icases Hi with ⟨Hi0, Hi1⟩
  ihave Ho := (oslots_split d L fo) $$ Ho
  iapply (start_in d L (off1_0 L) rfl) $$ [Hi0 Hx0 Hs2]
  · isplitl [Hi0]; · iexact Hi0
    isplitl [Hx0] <;> iassumption
  iintro Hin0
  iapply (start_in d L (off1_1 L) rfl) $$ [Hi1 Hx1 Hs3]
  · isplitl [Hi1]; · iexact Hi1
    isplitl [Hx1] <;> iassumption
  iintro Hin1
  sl_for (fun k (_ : BitVec 32) => iprop(ZSlot (F := F) d L 0 k 0 ∗ ZSlot (F := F) d L 1 k 0)) $$ [Ho]
  case region =>
    intro k acc
    exact zero_trip d L k acc
  · iexact Ho
  iintro %acc ⟨Ho0, Ho1⟩
  sl_for (fun k (_ : BitVec 32) => iprop(Cur d L X R₀ cc0_scratch2.sem cc0_scratch4.sem q.left 0 k ∗ Cur d L X R₀ cc0_scratch3.sem cc0_scratch5.sem q.right 1 k
        ∗ Owing (F := F) d L O W ∗ Transfers.MayWaits (thr d L) (none : HIx 1) O)) $$ [Hin0 Hin1 Ho0 Ho1 Ht0 Ht1 Hs4 Hs5 HO]
  case region =>
    intro k acc
    exact trip d L X R₀ _ _ _ k acc
  · rw [show Scf.trips k0_t1_loop.lb k0_t1_loop.ub k0_t1_loop.st = 64 from trips_t1]
    unfold Cur SIn SOut
    simp only [show (0:ℕ) < 8 from by decide, if_true]
    isplitl [Hin0 Ho0 Ht0 Hs4]
    · isplitl [Hin0]; · iexact Hin0
      isplitl [Ho0 Hs4]; · isplitl [Ho0] <;> iassumption
      isplitl [Ht0]; · iexact Ht0
      unfold Done; rw [show belowJ 0 = ∅ from by decide, BI.bigSep_empty]; iempintro
    isplitl [Hin1 Ho1 Ht1 Hs5]
    · isplitl [Hin1]; · iexact Hin1
      isplitl [Ho1 Hs5]; · isplitl [Ho1] <;> iassumption
      isplitl [Ht1]; · iexact Ht1
      unfold Done; rw [show belowJ 0 = ∅ from by decide, BI.bigSep_empty]; iempintro
    isplitl [HO]
    · unfold Owing; iexists W; isplitr
      · ipureintro; exact fun p hp => .inl hp
      iexact HO
    iexact Hmw
  iintro %acc ⟨H0, H1, HO, -⟩
  rw [show Scf.trips k0_t2_loop.lb k0_t2_loop.ub k0_t2_loop.st = 8 from trips_outer]
  unfold Cur SIn SOut
  simp only [show ¬ (8:ℕ) < 8 from by decide, show ¬ (8:ℕ) = 0 from by decide, if_false]
  icases H0 with ⟨⟨Hi0, Hx0, Hs2⟩, Hf0, -, Hd0⟩
  icases H1 with ⟨⟨Hi1, Hx1, Hs3⟩, Hf1, -, Hd1⟩
  iapply (wait_out d L (hN := rfl)) $$ [Hf0 HO]
  · isplitl [Hf0]; · iexact Hf0
    isplitl [HO]; · iexact HO
    iexact Hmw
  iintro ⟨Hr0, Ho0, Hs4, HO⟩
  iapply (wait_out d L (hN := rfl)) $$ [Hf1 HO]
  · isplitl [Hf1]; · iexact Hf1
    isplitl [HO]; · iexact HO
    iexact Hmw
  iintro ⟨Hr1, Ho1, Hs5, HO⟩
  sl_step
  isplitl [Hr0 Hd0 Hr1 Hd1]
  · isplitl [Hr0 Hd0]
    · iapply (Done.put d L X (7 : Fin 8)) $$ [Hr0 Hd0]
      isplitl [Hr0]; · iexact Hr0
      iexact Hd0
    · iapply (Done.put d L X (7 : Fin 8)) $$ [Hr1 Hd1]
      isplitl [Hr1]; · iexact Hr1
      iexact Hd1
  isplitl [Hi0 Hi1 Ho0 Ho1 Hbufs]
  · isplitl [Hi0 Hi1]
    · iapply (islots_join d L) $$ [Hi0 Hi1]; isplitl [Hi0] <;> iassumption
    isplitl [Ho0 Ho1]
    · iapply (oslots_join d L) $$ [Ho0 Ho1]; isplitl [Ho0] <;> iassumption
    iexact Hbufs
  isplitl [Hs2 Hs3 Hs4 Hs5 Hsems]
  · isplitl [Hs2]; · iexact Hs2
    isplitl [Hs3]; · iexact Hs3
    isplitl [Hs4]; · iexact Hs4
    isplitl [Hs5]; · iexact Hs5
    iexact Hsems
  unfold Owing; iexact HO

end Cert.KernelIdeal.Tiles

end
-- ==== Proof.Ideal.Shares.lean ====
/-
  How the call's operands are dealt to the thirty-two tiles: the input by read shares, the result by rows.
-/
module

public import proofs.«01_k».proof.Proof.Ideal.Tile

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The grid point of subcore `s` of SparseCore `c`. -/
def at' (c : Fin 2) (s : Fin 16) : grid0.Coords :=
  fun | 0 => c | 1 => s | ⟨_ + 2, h⟩ => absurd h (Nat.not_lt.2 (Nat.le_add_left _ _))

theorem at'_0 (c : Fin 2) (s : Fin 16) : ((at' c s) 0).val = c.val := rfl
theorem at'_1 (c : Fin 2) (s : Fin 16) : ((at' c s) 1).val = s.val := rfl

/-! ## The rows -/

/-- The rows of the result that the tile `L` writes through slot `b`; all of the tile's; all of a SparseCore's. -/
def bRows (L : grid0.Coords) (b : ℕ) : Finset S16384x1024.Idx :=
  Finset.univ.filter fun p => (p 0).val / 512 = 2 * (L 1).val + (L 0).val ∧ (p 0).val / 32 % 2 = b
def tRows (L : grid0.Coords) : Finset S16384x1024.Idx :=
  Finset.univ.filter fun p => (p 0).val / 512 = 2 * (L 1).val + (L 0).val
def cRows (c : Fin 2) : Finset S16384x1024.Idx := Finset.univ.filter fun p => (p 0).val / 512 % 2 = c.val

theorem mem_bRows {L : grid0.Coords} {b : ℕ} {p : S16384x1024.Idx} :
    p ∈ bRows L b ↔ (p 0).val / 512 = 2 * (L 1).val + (L 0).val ∧ (p 0).val / 32 % 2 = b := by simp [bRows]
theorem mem_tRows {L : grid0.Coords} {p : S16384x1024.Idx} : p ∈ tRows L ↔ (p 0).val / 512 = 2 * (L 1).val + (L 0).val := by simp [tRows]
theorem mem_cRows {c : Fin 2} {p : S16384x1024.Idx} : p ∈ cRows c ↔ (p 0).val / 512 % 2 = c.val := by simp [cRows]

theorem chunk_disjoint (L : grid0.Coords) (b : ℕ) : ∀ i ∈ (Finset.univ : Finset (Fin 8)), ∀ j ∈ (Finset.univ : Finset (Fin 8)), i ≠ j →
    Disjoint (oRows (ck L (2 * i.val + b))) (oRows (ck L (2 * j.val + b))) := by
  intro i _ j _ h
  refine Finset.disjoint_left.mpr fun p hi hj => h (Fin.ext ?_)
  rw [mem_oRows] at hi hj
  unfold ck at hi hj; omega

theorem chunk_cover (L : grid0.Coords) {b : ℕ} (hb : b < 2) :
    (Finset.univ : Finset (Fin 8)).biUnion (fun j => oRows (ck L (2 * j.val + b))) = bRows L b := by
  ext p
  simp only [Finset.mem_biUnion, Finset.mem_univ, true_and, mem_oRows, mem_bRows, ck]
  constructor
  · rintro ⟨j, hj⟩
    have := j.isLt
    omega
  · rintro ⟨h1, h2⟩
    exact ⟨⟨(p 0).val / 64 % 8, by omega⟩, by show _ = 16 * (2 * (L 1).val + (L 0).val) + (2 * ((p 0).val / 64 % 8) + b); omega⟩

theorem slot_cover (L : grid0.Coords) : bRows L 0 ⊆ tRows L ∧ tRows L \ bRows L 0 = bRows L 1 := by
  refine ⟨fun p hp => mem_tRows.mpr (mem_bRows.mp hp).1, ?_⟩
  ext p
  simp only [Finset.mem_sdiff, mem_tRows, mem_bRows]
  constructor
  · rintro ⟨h1, h2⟩
    have := (not_and.mp h2) h1
    exact ⟨h1, by omega⟩
  · rintro ⟨h1, h2⟩
    exact ⟨h1, fun h => by omega⟩

theorem tile_disjoint (c : Fin 2) : ∀ i ∈ (Finset.univ : Finset (Fin 16)), ∀ j ∈ (Finset.univ : Finset (Fin 16)), i ≠ j →
    Disjoint (tRows (at' c i)) (tRows (at' c j)) := by
  intro i _ j _ h
  refine Finset.disjoint_left.mpr fun p hi hj => h (Fin.ext ?_)
  rw [mem_tRows, at'_0, at'_1] at hi hj
  omega

theorem tile_cover (c : Fin 2) : (Finset.univ : Finset (Fin 16)).biUnion (fun s => tRows (at' c s)) = cRows c := by
  ext p
  have hp := (p 0).isLt
  change (p 0).val < 16384 at hp
  have hc := c.isLt
  simp only [Finset.mem_biUnion, Finset.mem_univ, true_and, mem_tRows, mem_cRows, at'_0, at'_1]
  constructor
  · rintro ⟨j, hj⟩; omega
  · intro h
    exact ⟨⟨(p 0).val / 1024, by omega⟩, by show _ = 2 * ((p 0).val / 1024) + c.val; omega⟩

theorem core_disjoint : ∀ i ∈ (Finset.univ : Finset (Fin 2)), ∀ j ∈ (Finset.univ : Finset (Fin 2)), i ≠ j → Disjoint (cRows i) (cRows j) := by
  intro i _ j _ h
  refine Finset.disjoint_left.mpr fun p hi hj => h (Fin.ext ?_)
  rw [mem_cRows] at hi hj
  omega

theorem core_cover : (Finset.univ : Finset (Fin 2)).biUnion cRows = Finset.univ := by
  ext p
  simp only [Finset.mem_biUnion, Finset.mem_univ, true_and, mem_cRows, iff_true]
  exact ⟨⟨(p 0).val / 512 % 2, by omega⟩, rfl⟩

/-! ## The result dealt and gathered -/

theorem slot_rows (d : Dev nD) (L : grid0.Coords) {b : ℕ} (hb : b < 2) (r : RC F) :
    (oLoc d ↦[bRows L b]{fullShare} r : sProp 𝕄) = bigSep Finset.univ fun j : Fin 8 => ROn d L (oRows (ck L (2 * j.val + b))) r := by
  rw [← chunk_cover L hb]
  exact pointsTo_biUnion (ℓ := oLoc d) Finset.univ (fun j : Fin 8 => oRows (ck L (2 * j.val + b))) (chunk_disjoint L b)

theorem tile_rows (d : Dev nD) (L : grid0.Coords) (r : RC F) :
    (oLoc d ↦[tRows L]{fullShare} r : sProp 𝕄)
      ⊣⊢ iprop((bigSep Finset.univ fun j : Fin 8 => ROn d L (oRows (ck L (2 * j.val + 0))) r)
          ∗ bigSep Finset.univ fun j : Fin 8 => ROn d L (oRows (ck L (2 * j.val + 1))) r) := by
  rw [← slot_rows d L (by decide), ← slot_rows d L (by decide), ← (slot_cover L).2]
  exact pointsTo_split_subset (slot_cover L).1

theorem core_rows (d : Dev nD) (c : Fin 2) (r : RC F) :
    (oLoc d ↦[cRows c]{fullShare} r : sProp 𝕄) = bigSep Finset.univ fun s : Fin 16 => oLoc d ↦[tRows (at' c s)]{fullShare} r := by
  rw [← tile_cover c]
  exact pointsTo_biUnion (ℓ := oLoc d) Finset.univ (fun s : Fin 16 => tRows (at' c s)) (tile_disjoint c)

theorem all_rows (d : Dev nD) (r : RC F) :
    (oLoc d ↦{fullShare} r : sProp 𝕄) = bigSep Finset.univ fun c : Fin 2 => oLoc d ↦[cRows c]{fullShare} r := by
  rw [← pointsTo_biUnion (ℓ := oLoc d) Finset.univ cRows core_disjoint, core_cover]

/-! ## What a tile takes and brings -/

variable [FloatOps F]

/-- The read share of the input that the tile at `(c, s)` is dealt. -/
abbrev xq (c : Fin 2) (s : Fin 16) : PosShare TreeShare :=
  Transfers.shareTok (Transfers.shareTok fullShare 2 c) 16 s

theorem core_in (d : Dev nD) (X : XC F) (R₀ : RC F) (c : Fin 2) :
    iprop((xLoc d ↦{Transfers.shareTok fullShare 2 c} X) ∗ oLoc d ↦[cRows c]{fullShare} R₀)
      ⊢ (bigSep Finset.univ fun s : Fin 16 => taskIn d (at' c s) X R₀ (xq c s) : sProp 𝕄) := by
  iintro ⟨Hx, Ho⟩
  ihave Hx := (Transfers.pointsTo_toks_split (ℓ := xLoc d) (S := Finset.univ) (f := X) (Transfers.shareTok fullShare 2 c) 16) $$ Hx
  icases Hx with ⟨-, Hs⟩
  ihave Ho := (Entails.of_eq (core_rows d c R₀)) $$ Ho
  iapply (show iprop((bigSep Finset.univ fun s : Fin 16 => xLoc d ↦{xq c s} X)
      ∗ bigSep Finset.univ fun s : Fin 16 => oLoc d ↦[tRows (at' c s)]{fullShare} R₀)
      ⊢ (bigSep Finset.univ fun s : Fin 16 => taskIn d (at' c s) X R₀ (xq c s) : sProp 𝕄) from
    (Entails.of_eq (BI.bigSep_sep _ _ _).symm).trans (bigSep_mono fun s _ => by
      unfold taskIn Todo
      rw [show fromJ 0 = Finset.univ from by decide]
      exact sep_mono Entails.rfl (tile_rows d (at' c s) R₀).1)) $$ [Hs Ho]
  isplitl [Hs] <;> iassumption

theorem tiles_in (d : Dev nD) (X : XC F) (R₀ : RC F) :
    iprop((xLoc d ↦{fullShare} X) ∗ oLoc d ↦{fullShare} R₀)
      ⊢ (iprop((xLoc d ↦{Transfers.shareDrop fullShare 2} X)
          ∗ bigSep Finset.univ fun c : Fin 2 => bigSep Finset.univ fun s : Fin 16 => taskIn d (at' c s) X R₀ (xq c s)) : sProp 𝕄) := by
  iintro ⟨Hx, Ho⟩
  ihave Hx := (Transfers.pointsTo_toks_split (ℓ := xLoc d) (S := Finset.univ) (f := X) fullShare 2) $$ Hx
  icases Hx with ⟨Hx, Hs⟩
  isplitl [Hx]; · iexact Hx
  ihave Ho := (Entails.of_eq (all_rows d R₀)) $$ Ho
  iapply (show iprop((bigSep Finset.univ fun c : Fin 2 => xLoc d ↦{Transfers.shareTok fullShare 2 c} X)
      ∗ bigSep Finset.univ fun c : Fin 2 => oLoc d ↦[cRows c]{fullShare} R₀)
      ⊢ (bigSep Finset.univ fun c : Fin 2 => bigSep Finset.univ fun s : Fin 16 => taskIn d (at' c s) X R₀ (xq c s) : sProp 𝕄) from
    (Entails.of_eq (BI.bigSep_sep _ _ _).symm).trans (bigSep_mono fun c _ => core_in d X R₀ c)) $$ [Hs Ho]
  isplitl [Hs] <;> iassumption

theorem tiles_out (d : Dev nD) (X : XC F) :
    (bigSep Finset.univ fun c : Fin 2 => bigSep Finset.univ fun s : Fin 16 => taskOut d (at' c s) X)
      ⊢ (oLoc d ↦{fullShare} want X : sProp 𝕄) := by
  rw [all_rows]
  refine bigSep_mono fun c _ => ?_
  rw [core_rows]
  refine bigSep_mono fun s _ => ?_
  unfold taskOut Done
  rw [show belowJ 9 = Finset.univ from by decide]
  exact (tile_rows d (at' c s) (want X)).2

end Cert.KernelIdeal.Tiles

end
-- ==== Proof.Ideal.Run.lean ====
/-
  The whole run: what the call takes and brings, the launch, the value the result holds at the end.
-/
module

public import proofs.«01_k».proof.Proof.Ideal.Shares

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the call takes and brings -/

abbrev goC (d : Dev nD) (c : Fin 2) (s : Fin 16) : sProp 𝕄 := taskIn d (at' c s) (m (xLoc d)) (m (oLoc d)) (xq c s)
abbrev tdC (d : Dev nD) (c : Fin 2) (s : Fin 16) : sProp 𝕄 := taskOut d (at' c s) (m (xLoc d))

instance goC_storable (d : Dev nD) (c : Fin 2) (s : Fin 16) : BI.Storable (upEmb : UEmb _ 𝕄) (goC m d c s) := by
  unfold goC taskIn Todo; infer_instance
instance tdC_storable (d : Dev nD) (c : Fin 2) (s : Fin 16) : BI.Storable (upEmb : UEmb _ 𝕄) (tdC m d c s) := by
  unfold tdC taskOut Done; infer_instance

/-- Each SparseCore takes what its tiles take, and brings what they bring. -/
def P : (K (F := F)).Pay (nD := nD) (Val := Elt F) (Name := ℕ) (U := UU) where
  st := fun q d c => match q with | 0 => bigSep Finset.univ fun s : Fin 16 => goC m d (Fin.cast nCore_zero c) s
  dn := fun q d c => match q with | 0 => bigSep Finset.univ fun s : Fin 16 => tdC m d (Fin.cast nCore_zero c) s
  go := fun q d c i => match q with | 0 => goC m d (Fin.cast nCore_zero c) (Fin.cast nSub_zero i)
  td := fun q d c i => match q with | 0 => tdC m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goC m d (Fin.cast nCore_zero c) s))
  dn q d c := match q with
    | 0 => (inferInstance : BI.Storable (upEmb : UEmb _ 𝕄) (bigSep Finset.univ fun s : Fin 16 => tdC m d (Fin.cast nCore_zero c) s))
  go q d c i := match q with
    | 0 => (inferInstance : BI.Storable (upEmb : UEmb _ 𝕄) (goC m d (Fin.cast nCore_zero c) (Fin.cast nSub_zero i)))
  td q d c i := match q with
    | 0 => (inferInstance : BI.Storable (upEmb : UEmb _ 𝕄) (tdC m d (Fin.cast nCore_zero c) (Fin.cast nSub_zero i)))

/-! ## The tile's obligation -/

theorem defs₀_vector (c : Fin τ.nSC) (s : Fin τ.nSub) :
    defs₀ (F := F) (.scVector c s) 0 ()
      = SparseCore.onTile hcore0 hsub0 (fun c s => cc0__sc_restore (at' c s)
          xV (Memref.isWhole_whole _) oV (Memref.isWhole_whole _) iB (Memref.isWhole_whole _) oB (Memref.isWhole_whole _)
          cc0_scratch2 cc0_scratch3 cc0_scratch4 cc0_scratch5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at' ⟨_, hci.1⟩ ⟨_, hci.2⟩) (m (xLoc d)) (m (oLoc d)) hF _ O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => goC m d (Fin.cast nCore_zero c) s) ⊢ |={Set.univ}=> iprop(
      (bigSep Finset.univ fun i : Fin ((K (F := F)).nSub 0) => goC m d (Fin.cast nCore_zero c) (Fin.cast nSub_zero i))
      ∗ ((bigSep Finset.univ fun i : Fin ((K (F := F)).nSub 0) => tdC m d (Fin.cast nCore_zero c) (Fin.cast nSub_zero i))
          -∗ bigSep Finset.univ fun s : Fin 16 => tdC m d (Fin.cast nCore_zero c) s))
  rw [bigSep_tasks (F := F) (fun s => goC m d (Fin.cast nCore_zero c) s), bigSep_tasks (F := F) (fun s => tdC m d (Fin.cast nCore_zero c) s)]
  iintro H; imodintro
  isplitl [H]; · iexact H
  iintro H
  iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (kLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => goC m d c s :=
  bigSep_cores (F := F) fun c => bigSep Finset.univ fun s : Fin 16 => goC m d c s
theorem dn0_eq (d : Dev nD) : (bigSep Finset.univ fun c : Fin ((K (F := F)).nCore 0) => (P m).dn 0 d c)
    = bigSep Finset.univ fun c : Fin 2 => bigSep Finset.univ fun s : Fin 16 => tdC m d c s :=
  bigSep_cores (F := F) fun c => bigSep Finset.univ fun s : Fin 16 => tdC m d c s

/-- What is kept at the end: a share of each argument, and the result at the wanted values. -/
abbrev FIN (d : Dev nD) : sProp 𝕄 :=
  iprop((xLoc d ↦{Transfers.shareDrop fullShare 2} m (xLoc d)) ∗ (kLoc d ↦{fullShare} m (kLoc d)) ∗ oLoc d ↦{fullShare} want (m (xLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hk, Ho⟩, Hts, -⟩, -⟩
  ihave H := (tiles_in d (m (xLoc d)) (m (oLoc d))) $$ [Hx Ho]
  · isplitl [Hx] <;> iassumption
  icases H with ⟨Hx, Hgo⟩
  iapply ((K (F := F)).wp_run (D (F := F)) 𝒱 (EH := EH) (P := P m) κ d 0) $$ [Hst Hx Hk Hgo Hb Hts]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Ho := (tiles_out d (m (xLoc d))) $$ Hdn'
  imodintro
  isplitl [Hst]; · iexact Hst
  isplitr [Hb Hts]
  · isplitl [Hx]; · iexact Hx
    isplitl [Hk] <;> iassumption
  isplitl [Hb] <;> iassumption

def fq (d : Dev nD) (s' : Phys nD τ sig (Elt F)) : Prop :=
  s'.mem.mem (xLoc d) = m (xLoc d) ∧ s'.mem.mem (kLoc d) = m (kLoc d) ∧ s'.mem.mem (oLoc d) = want (m (xLoc d))

set_option maxRecDepth 16384 in
theorem hfin (d : Dev nD) (s' : Phys nD τ sig (Elt F)) : iprop(FIN m d ∗ SI s') ⊢ (⌜fq m d s'⌝ : sProp 𝕄) := by
  iintro ⟨⟨Hx, Hk, Ho⟩, HSI⟩
  ihave H := (persistent_entails_right (SI_pointsTo_agree (st := s') (ℓ := xLoc d) (I := Finset.univ) (q := Transfers.shareDrop fullShare 2) (f := m (xLoc d)))) $$ [HSI Hx]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := oLoc d) (I := Finset.univ) (q := fullShare) (f := want (m (xLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (xLoc c) = m (xLoc c) ∧ r.2.mem (kLoc c) = m (kLoc c) ∧ r.2.mem (oLoc c) = want (m (xLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) cfgFacts v₀
    (fun q hq => match q with | 0 => nomatch hq)
    (fun q _ => match q with | 0 => tileObl m cfgFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tiles

end
-- ==== Proof.Reference.Mask.lean ====
/-
  What the precondition says of the mask: that it is true at the even places and false at the odd ones.
-/
module

public import proofs.«01_k».proof.Pre_every_other
public import Idealize.ShloMosaic.Lib.Routing.Ops
public import Idealize.ShloMosaic.Lib.Affine
public import Idealize.ShloMosaic.Lib.ReduceAll

@[expose] public section

noncomputable section

namespace Cert.Pre_every_other

open Idealize.ShloMosaic Idealize.ShloMosaic.ValueIdx

/-- The precondition's function is printed with its shape relations stated; these prove them. -/
theorem facts : Facts where
  bcast_S_S16384 := by decide
  reducesTo_S16384_S_d0 := by decide
  h_S_ := by decide

/-- Whether a place is even, as the mask's word. -/
def evenWord (n : ℕ) : BitVec 1 := if n % 2 = 0 then 1#1 else 0#1

/-- jnp's remainder of a small natural by 2, compared to zero: the sign corrections do nothing. -/
theorem word_even (u : ArithUnit) {n : ℕ} (hn : n < 16384) :
    (fun r : BitVec 32 => IntOp.cmpi .eq (Scalar.select (IntOp.andi (IntOp.cmpi .ne (IntOp.cmpi .slt r 0#32) (IntOp.cmpi .slt 2#32 0#32)) (IntOp.cmpi .ne r 0#32)) (IntOp.addi r 2#32) r) 0#32)
      (IntOp.remsi u (BitVec.ofNat 32 n) 2#32) = evenWord n := by
  have e : IntOp.remsi u (BitVec.ofNat 32 n) 2#32 = BitVec.ofNat 32 (n % 2) := by
    apply BitVec.eq_of_toNat_eq
    have hx : (BitVec.ofNat 32 n).toNat = n := by rw [BitVec.toNat_ofNat]; omega
    refine (IntOp.toNat_remsi u (by rw [hx]; omega) 2 (by omega) (by omega)).trans ?_
    rw [hx, BitVec.toNat_ofNat]; omega
  rw [e]
  unfold evenWord
  rcases Nat.mod_two_eq_zero_or_one n with h | h <;> rw [h] <;> decide

theorem mask_of_pre [Facts] {F : FTy → Type} [FloatOps F] (x : FVec F S8192x1024 .f32) (k : IVec S16384 1) (h : fn x k = fun _ => 1#1) (i : Fin 16384) :
    k (ix1 i) = evenWord i.val := by
  have e := congrFun h ix0
  unfold fn fn_remainder fn_where at e
  dsimp only at e
  have e' := Host.reduce_andi_all (t := S_) _ _ _ _ ix0 e (ix1 i)
  have e'' := IntOp.cmpi_eq.mp e'
  rw [e'']
  exact word_even .host i.isLt

end Cert.Pre_every_other

end
-- ==== Proof.Reference.Value.lean ====
/-
  The reference's result on the extended reals, under a mask that is true at the even places: an even row is a row of the input doubled, whatever
  the noise was, and an odd row is zero.
-/
module

public import proofs.«01_k».proof.Proof.Reference.Main
public import proofs.«01_k».proof.Proof.Reference.Mask
public import Idealize.ShloMosaic.Lib.IdealHost

@[expose] public section

noncomputable section

namespace Cert.ReferenceIdeal.Line

open Cert.ReferenceIdeal Cert.ReferenceIdeal.Gen
open Idealize.ShloMosaic Idealize.ShloMosaic.ValueIdx Idealize.ShloMosaic.Routing
open Cert.Pre_every_other (evenWord)

/-! ## The index each place takes -/

theorem sum_odd (n : ℕ) : ((List.range n).map (· % 2)).sum = n / 2 := by
  induction n with
  | zero => rfl
  | succ n ih => rw [List.range_succ, List.map_append, List.sum_append, ih]; simp; omega

theorem countOf_apply {k : IVec S16384 1} (hk : ∀ i : Fin 16384, k (ix1 i) = evenWord i.val) (i : Fin 16384) :
    countOf k (ix1 i) = BitVec.ofNat 32 ((i.val + 1) / 2) := by
  refine (cumsum1 (N := 16384) (Nm1 := 16383) rfl _ (· % 2) (fun i => ?_) _ rfl _ _ i).trans (by rw [sum_odd])
  change (~~~ k (ix1 i)).setWidth 32 = _
  rw [hk]
  unfold evenWord
  rcases Nat.mod_two_eq_zero_or_one i.val with h | h <;> rw [h] <;> decide

/-- The row of the table the place takes. -/
def rowAt (n : ℕ) : ℕ := if n % 2 = 0 then n / 2 + 1 else 0

theorem rowAt_lt {n : ℕ} (hn : n < 16384) : rowAt n < 8193 := by unfold rowAt; split <;> omega

theorem indexOf_apply {k : IVec S16384 1} (hk : ∀ i : Fin 16384, k (ix1 i) = evenWord i.val) (i : Fin 16384) :
    indexOf k (ix1 i) = BitVec.ofNat 32 (rowAt i.val) := by
  change Scalar.select (k (ix1 i)) ((1#32 + BitVec.ofNat 32 i.val) - countOf k (ix1 i)) 0#32 = _
  rw [hk, countOf_apply hk]
  have hi := i.isLt
  unfold evenWord rowAt
  split
  · next h =>
    change (1#32 + BitVec.ofNat 32 i.val) - BitVec.ofNat 32 ((i.val + 1) / 2) = _
    apply BitVec.eq_of_toNat_eq
    simp only [BitVec.toNat_sub, BitVec.toNat_add, BitVec.toNat_ofNat]
    omega
  · rfl

theorem toInt_ofNat {r : ℕ} (hr : r < 8193) : (BitVec.ofNat 32 r).toInt = r := by
  rw [BitVec.toInt_eq_toNat_of_lt (by rw [BitVec.toNat_ofNat]; omega), BitVec.toNat_ofNat]; omega

theorem wrapOf_apply {j : IVec S16384 32} {i : Fin 16384} {r : ℕ} (h : j (ix1 i) = BitVec.ofNat 32 r) (hr : r < 8193) :
    wrapOf j (ix2 i 0) = BitVec.ofNat 32 r := by
  refine (bcCol _ _ i).trans ?_
  change Scalar.select (IntOp.cmpi .slt (j (ix1 i)) 0#32) (j (ix1 i) + 8193#32) (j (ix1 i)) = _
  rw [h]
  refine if_neg fun hc => ?_
  have := IntOp.cmpi_slt.mp hc
  rw [toInt_ofNat hr] at this
  change (r : ℤ) < 0 at this
  omega

theorem insideOf_apply {j : IVec S16384x1 32} (h : ∀ i : Fin 16384, ∃ r < 8193, j (ix2 i 0) = BitVec.ofNat 32 r) (p : S16384.Idx) : insideOf j p = 1#1 := by
  unfold insideOf
  refine Host.reduce_andi_one _ _ _ _ p rfl fun q => ?_
  obtain ⟨i, rfl⟩ : ∃ i : Fin 16384, q = ix2 i (0 : Fin 1) := by
    refine ⟨q 0, (eq_ix2 q).trans (congrArg (ix2 (q 0)) (Fin.ext ?_))⟩
    have := idx2_lt1 q
    show (q 1).val = 0
    omega
  obtain ⟨r, hr, e⟩ := h i
  have e' : (j (ix2 i 0)).toInt = r := (congrArg BitVec.toInt e).trans (toInt_ofNat hr)
  refine IntOp.andi_eq_one.mpr ⟨IntOp.cmpi_sge.mpr (le_of_le_of_eq ?_ e'.symm), IntOp.cmpi_sle.mpr (le_of_eq_of_le e' ?_)⟩
  · change (0 : ℤ) ≤ r; omega
  · change (r : ℤ) ≤ 8192; omega

/-! ## The rows of the table -/

theorem two_f32 : Ideal.ofBits .f32 0x40000000#32 = 2 := by
  rw [show (2 : EReal) = ((2 : ℝ) : EReal) by norm_cast]
  simp [Ideal.ofBits, Ideal.ieee, -EReal.coe_mul]; norm_num

theorem mul_one_two (x : EReal) : x * (1 * 2) = x + x := by
  rw [one_mul]
  induction x with
  | bot => exact EReal.bot_mul_coe_of_pos (x := 2) (by norm_num)
  | top => exact EReal.top_mul_coe_of_pos (x := 2) (by norm_num)
  | coe a =>
    rw [show (2 : EReal) = ((2 : ℝ) : EReal) by norm_cast, ← EReal.coe_mul, ← EReal.coe_add, mul_two]

/-- The noise, cut off below at 1. -/
abbrev noise (y : FVec Ideal S8192x1 .f32) : FVec Ideal S8192x1 .f32 :=
  maximumf (broadcastInDim S8192x1 ![0, 1] bcast_S1x1_S8192x1_0_1 (broadcastInDim S1x1 ![] bcast_S_S1x1 (constant S_ .f32 0x3F800000#32))) y

/-- Noise that is at least 1 keeps every row, doubled. -/
theorem scale_apply (y : FVec Ideal S8192x1 .f32) (i : S8192x1.Idx) :
    (mulf (uitofp .f32 (cmpf .oge (noise y) (broadcastInDim S8192x1 ![] bcast_S_S8192x1 (constant S_ .f32 0x3F800000#32))))
        (broadcastInDim S8192x1 ![] bcast_S_S8192x1 (constant S_ .f32 0x40000000#32)) : FVec Ideal S8192x1 .f32) i = (1 * 2 : EReal) := by
  change (((BitVec.ofBool (decide (Ideal.ofBits .f32 0x3F800000#32 ≤ max (Ideal.ofBits .f32 0x3F800000#32) (y i)))).toNat : ℝ) : EReal)
    * Ideal.ofBits .f32 0x40000000#32 = _
  rw [decide_eq_true (le_max_left _ _), two_f32]
  simp

theorem table_zero (x : FVec Ideal S8192x1024 .f32) (u : FVec Ideal S8192x1 .f32) (c : Fin 1024) :
    tableOf x u (ix2 (0 : Fin 8193) c) = Ideal.ofBits .f32 0x00000000#32 := by
  unfold tableOf
  refine (concatenate_pair_apply_left (s₁ := S1x1024) (s₂ := S8192x1024) (t := S8193x1024) 0 _ _ _ _ rfl (ix2 (0 : Fin 1) c) fun b => ?_).trans rfl
  match b with
  | ⟨0, _⟩ => rfl
  | ⟨1, _⟩ => rfl

theorem table_succ (x : FVec Ideal S8192x1024 .f32) (y : FVec Ideal S8192x1 .f32) (r : Fin 8192) (c : Fin 1024) :
    tableOf x (noise y) (ix2 r.succ c) = x (ix2 r c) + x (ix2 r c) := by
  unfold tableOf
  refine (concatenate_pair_apply_right (s₁ := S1x1024) (s₂ := S8192x1024) (t := S8193x1024) 0 _ _ _ (ix2 r.succ c) rfl rfl (ix2 r c) (fun b hb => ?_) rfl).trans ?_
  · match b with
    | ⟨0, _⟩ => exact absurd rfl hb
    | ⟨1, _⟩ => rfl
  · refine (congrArg (x (ix2 r c) * ·) (scale_apply y _)).trans (mul_one_two _)

/-! ## The result -/

theorem value (x : FVec Ideal S8192x1024 .f32) (y : FVec Ideal S8192x1 .f32) {k : IVec S16384 1} (hk : ∀ i : Fin 16384, k (ix1 i) = evenWord i.val)
    (i : Fin 16384) (c : Fin 1024) :
    takeOf (tableOf x (noise y)) (wrapOf (indexOf k)) (ix2 i c)
      = if i.val % 2 = 0 then x (ix2 ⟨i.val / 2, by omega⟩ c) + x (ix2 ⟨i.val / 2, by omega⟩ c) else Ideal.ofBits .f32 0x00000000#32 := by
  have hw : ∀ i : Fin 16384, wrapOf (indexOf k) (ix2 i 0) = BitVec.ofNat 32 (rowAt i.val) := fun i => wrapOf_apply (indexOf_apply hk i) (rowAt_lt i.isLt)
  have hin : broadcastInDim S16384x1024 ![0] bcast_S16384_S16384x1024_0 (insideOf (wrapOf (indexOf k))) (ix2 i c) = 1#1 := by
    unfold broadcastInDim
    exact insideOf_apply (j := wrapOf (indexOf k)) (fun i => ⟨_, rowAt_lt i.isLt, hw i⟩) _
  unfold takeOf
  rw [select_apply, hin, Scalar.select, if_pos (show (1#1 : BitVec 1) = 1 from rfl)]
  refine (gather_row _ rfl rfl rfl rfl rfl _ _ i c ⟨rowAt i.val, rowAt_lt i.isLt⟩ (hw i) (by norm_num)).trans ?_
  split
  · next h =>
    refine Eq.trans ?_ (table_succ x y ⟨i.val / 2, by omega⟩ c)
    refine congrArg (fun r => tableOf x (noise y) (ix2 r c)) (Fin.ext ?_)
    show rowAt i.val = i.val / 2 + 1
    exact if_pos h
  · next h =>
    refine Eq.trans ?_ (table_zero x (noise y) c)
    refine congrArg (fun r => tableOf x (noise y) (ix2 r c)) (Fin.ext ?_)
    exact if_neg h

end Cert.ReferenceIdeal.Line

end
-- ==== Proof.Algebra.lean ====
/-
  The two programs' results are one array: what the kernel leaves over an input is what the reference leaves over it under the precondition's mask.
-/
module

public import proofs.«01_k».proof.Proof.Ideal.Run
public import proofs.«01_k».proof.Proof.Reference.Value

@[expose] public section

noncomputable section

namespace Cert.Proof

open Idealize.ShloMosaic Idealize.ShloMosaic.ValueIdx
open Cert.ReferenceIdeal.Line (takeOf tableOf noise wrapOf indexOf value)

theorem want_eq (x : FVec Ideal Cert.ReferenceIdeal.S8192x1024 .f32) (y : FVec Ideal Cert.ReferenceIdeal.S8192x1 .f32) {k : IVec Cert.ReferenceIdeal.S16384 1}
    (hk : ∀ i : Fin 16384, k (ix1 i) = Cert.Pre_every_other.evenWord i.val) :
    takeOf (tableOf x (noise y)) (wrapOf (indexOf k)) = Cert.KernelIdeal.Tiles.want (F := Ideal) x := by
  funext p
  obtain ⟨i, c, rfl⟩ : ∃ (i : Fin 16384) (c : Fin 1024), p = ix2 i c := ⟨p 0, p 1, eq_ix2 p⟩
  refine (value x y hk i c).trans ?_
  unfold Cert.KernelIdeal.Tiles.want
  have e : ∀ h : i.val / 2 < 8192, (ix2 (⟨i.val / 2, h⟩ : Fin 8192) c : Cert.ReferenceIdeal.S8192x1024.Idx)
      = fun | 0 => ⟨i.val / 2, h⟩ | 1 => c := fun h => funext fun a => match a with | 0 => rfl | 1 => rfl
  split
  · exact congrArg (fun p => x p + x p) (e (by omega))
  · rfl

end Cert.Proof

end
-- ==== Proof.lean ====
/-
  The certificate's proof: the frames from the three programs' runs, the value claim from the kernel's result and the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Bits.Run
public import proofs.«01_k».proof.Proof.Reference.Run
public import proofs.«01_k».proof.Proof.Algebra
public import Idealize.ShloMosaic.Adequacy
public import Idealize.ShloMosaic.Init

@[expose] public section

noncomputable section

namespace Cert.Proof

open Idealize.ShloMosaic Idealize.ShloMosaic.ValueIdx Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_every_other.Facts := Cert.Pre_every_other.facts

/-- The kernel's frame, on floats as bit patterns. -/
theorem frame_kernel : quiescent_Kernel := fun m g _ =>
  (θ_run _ _ _).mono (fun _ h => ⟨fun c => ⟨(h.1 c).1, (h.1 c).2.1⟩, h.2⟩) (Cert.Kernel.Tiles.run_main m g)

/-- The kernel's frame, on extended reals. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c).1, (h.1 c).2.1⟩, h.2⟩) (Cert.KernelIdeal.Tiles.run_main m g)

/-- The reference's frame. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => ⟨(h.1 c).1, (h.1 c).2.1⟩, h.2⟩) (Cert.ReferenceIdeal.Line.run_main m g)

/-- The kernel and the reference leave the same result. -/
theorem same_result : algebraic_KernelIdeal_ReferenceIdeal_pre_every_other := by
  intro m g m' g' hpre hagree
  refine ⟨fun c => Cert.KernelIdeal.Tiles.want (F := Ideal) (m (Cert.KernelIdeal.Tiles.xLoc c)), ?_, ?_⟩
  · exact (θ_run _ _ _).mono (fun _ h c => ⟨(h.1 c).2.2, (h.1 c).1, (h.1 c).2.1⟩) (Cert.KernelIdeal.Tiles.run_main m g)
  · refine (θ_run _ _ _).mono (fun _ h c => ⟨?_, (h.1 c).1, (h.1 c).2.1⟩) (Cert.ReferenceIdeal.Line.run_main m' g')
    obtain ⟨y, hy⟩ := (h.1 c).2.2
    rw [(hagree c).1, (hagree c).2] at hy
    exact hy.trans (want_eq _ y (Cert.Pre_every_other.mask_of_pre _ _ (hpre c)))

theorem claim : Cert.Claim := ⟨Cert.Kernel.Gen.facts, Cert.KernelIdeal.Gen.facts, Cert.ReferenceIdeal.Gen.facts, Cert.Pre_every_other.facts,
  frame_kernel, fun m g _ => frame_ideal m g, fun m g _ => frame_ideal m g, fun m g _ => frame_reference m g, fun m g _ => frame_reference m g,
  trivial, same_result⟩

end Cert.Proof

end
